-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_generic [hPre_generic : Cert.Pre_generic.Facts] (m : (ℓ : Loc Cert.KernelIdeal.nD Cert.KernelIdeal.τ Cert.KernelIdeal.sig) → Buf (Elt Ideal) ℓ) : Prop :=
  ∀ c : Dev Cert.KernelIdeal.nD,
    (Cert.Pre_generic.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).1 = (fun _ => 1#1)
    ∧ (Cert.Pre_generic.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.1 = (fun _ => 1#1)
    ∧ (Cert.Pre_generic.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.1 = (fun _ => 1#1)
    ∧ (Cert.Pre_generic.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.1 = (fun _ => 1#1)
    ∧ (Cert.Pre_generic.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.1 = (fun _ => 1#1)
    ∧ (Cert.Pre_generic.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.1 = (fun _ => 1#1)
    ∧ (Cert.Pre_generic.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.1 = (fun _ => 1#1)
    ∧ (Cert.Pre_generic.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.1 = (fun _ => 1#1)
    ∧ (Cert.Pre_generic.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_generic [hPre_generic : Cert.Pre_generic.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_generic.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).1 = (fun _ => 1#1)
    ∧ (Cert.Pre_generic.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.1 = (fun _ => 1#1)
    ∧ (Cert.Pre_generic.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.1 = (fun _ => 1#1)
    ∧ (Cert.Pre_generic.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.1 = (fun _ => 1#1)
    ∧ (Cert.Pre_generic.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.1 = (fun _ => 1#1)
    ∧ (Cert.Pre_generic.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.1 = (fun _ => 1#1)
    ∧ (Cert.Pre_generic.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.1 = (fun _ => 1#1)
    ∧ (Cert.Pre_generic.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.1 = (fun _ => 1#1)
    ∧ (Cert.Pre_generic.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_generic [hKernelIdeal : Cert.KernelIdeal.Facts] [hPre_generic : Cert.Pre_generic.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_generic m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_generic [hReferenceIdeal : Cert.ReferenceIdeal.Facts] [hPre_generic : Cert.Pre_generic.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_generic m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_generic [hKernelIdeal : Cert.KernelIdeal.Facts] [hReferenceIdeal : Cert.ReferenceIdeal.Facts] [hPre_generic : Cert.Pre_generic.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_generic m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v269) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_generic : Cert.Pre_generic.Facts),
    quiescent_Kernel (hKernel := hKernel)
    ∧ quiescent_KernelIdeal (hKernelIdeal := hKernelIdeal)
    ∧ quiescent_KernelIdeal_pre_generic (hKernelIdeal := hKernelIdeal) (hPre_generic := hPre_generic)
    ∧ quiescent_ReferenceIdeal (hReferenceIdeal := hReferenceIdeal)
    ∧ quiescent_ReferenceIdeal_pre_generic (hReferenceIdeal := hReferenceIdeal) (hPre_generic := hPre_generic)
    ∧ preserves_Kernel_KernelIdeal
    ∧ algebraic_KernelIdeal_ReferenceIdeal_pre_generic (hKernelIdeal := hKernelIdeal) (hReferenceIdeal := hReferenceIdeal) (hPre_generic := hPre_generic)
-- ==== Pre_generic.lean ====
abbrev S128x1600 : Shape := ⟨2, ![128, 1600]⟩
abbrev S64x64x3x3 : Shape := ⟨4, ![64, 64, 3, 3]⟩
abbrev S64 : Shape := ⟨1, ![64]⟩
abbrev S1x64x3x3 : Shape := ⟨4, ![1, 64, 3, 3]⟩
abbrev S1 : Shape := ⟨1, ![1]⟩
abbrev S8x4 : Shape := ⟨2, ![8, 4]⟩
abbrev S8 : Shape := ⟨1, ![8]⟩
abbrev S1x8 : Shape := ⟨2, ![1, 8]⟩
abbrev S1600x1000 : Shape := ⟨2, ![1600, 1000]⟩
abbrev S1000 : Shape := ⟨1, ![1000]⟩
abbrev S128x64x5x5 : Shape := ⟨4, ![128, 64, 5, 5]⟩
abbrev S_ : Shape := ⟨0, ![]⟩
abbrev S128x64x7x7 : Shape := ⟨4, ![128, 64, 7, 7]⟩
abbrev S64x64x1x1 : Shape := ⟨4, ![64, 64, 1, 1]⟩
abbrev S64x64 : Shape := ⟨2, ![64, 64]⟩
abbrev S64x128x5x5 : Shape := ⟨4, ![64, 128, 5, 5]⟩
abbrev S1x64x1x1 : Shape := ⟨4, ![1, 64, 1, 1]⟩
abbrev S128x64x3x3 : Shape := ⟨4, ![128, 64, 3, 3]⟩
abbrev S128x1x3x3 : Shape := ⟨4, ![128, 1, 3, 3]⟩
abbrev S1x64 : Shape := ⟨2, ![1, 64]⟩
abbrev S1x128x3x3 : Shape := ⟨4, ![1, 128, 3, 3]⟩
abbrev S1x1x1x1 : Shape := ⟨4, ![1, 1, 1, 1]⟩
abbrev S128x1x5x5 : Shape := ⟨4, ![128, 1, 5, 5]⟩
abbrev S128x1x2x2 : Shape := ⟨4, ![128, 1, 2, 2]⟩
abbrev S128x4 : Shape := ⟨2, ![128, 4]⟩
abbrev S4x8 : Shape := ⟨2, ![4, 8]⟩
abbrev S128x8 : Shape := ⟨2, ![128, 8]⟩
abbrev S8x1 : Shape := ⟨2, ![8, 1]⟩
abbrev S128x1 : Shape := ⟨2, ![128, 1]⟩
abbrev S1x1 : Shape := ⟨2, ![1, 1]⟩
abbrev S128x1x1600 : Shape := ⟨3, ![128, 1, 1600]⟩
abbrev S1x128x1600 : Shape := ⟨3, ![1, 128, 1600]⟩
abbrev S128x128x1600 : Shape := ⟨3, ![128, 128, 1600]⟩
abbrev S128x128 : Shape := ⟨2, ![128, 128]⟩
abbrev S1x128x128 : Shape := ⟨3, ![1, 128, 128]⟩
abbrev S128x128x1 : Shape := ⟨3, ![128, 128, 1]⟩
abbrev S128x1x128 : Shape := ⟨3, ![128, 1, 128]⟩
abbrev S128x128x128 : Shape := ⟨3, ![128, 128, 128]⟩

class Facts : Prop where
  shapeCasts_S128x1600_S128x64x5x5 : S128x1600.ShapeCasts S128x64x5x5
  pads_S128x64x5x5_S128x64x7x7_000_000_110_110 : S128x64x5x5.Pads (![0, 0, 1, 1] : Fin 4 → Nat) ![0, 0, 1, 1] ![0, 0, 0, 0] S128x64x7x7
  h_S_ : 0 < S_.numel
  bcast_S_S128x64x5x5 : S_.BroadcastsInDim S128x64x5x5 (![] : Fin 0 → Fin S128x64x5x5.rank)
  slices_S128x64x7x7_S128x64x5x5_0_0_0_0 : S128x64x7x7.Slices ![0, 0, 0, 0] S128x64x5x5
  slices_S64x64x3x3_S64x64x1x1_0_0_0_0 : S64x64x3x3.Slices ![0, 0, 0, 0] S64x64x1x1
  shapeCasts_S64x64x1x1_S64x64 : S64x64x1x1.ShapeCasts S64x64
  transposes_S64x128x5x5_S128x64x5x5_1_0_2_3 : S64x128x5x5.Transposes [1, 0, 2, 3] S128x64x5x5
  slices_S128x64x7x7_S128x64x5x5_0_0_0_1 : S128x64x7x7.Slices ![0, 0, 0, 1] S128x64x5x5
  slices_S64x64x3x3_S64x64x1x1_0_0_0_1 : S64x64x3x3.Slices ![0, 0, 0, 1] S64x64x1x1
  slices_S128x64x7x7_S128x64x5x5_0_0_0_2 : S128x64x7x7.Slices ![0, 0, 0, 2] S128x64x5x5
  slices_S64x64x3x3_S64x64x1x1_0_0_0_2 : S64x64x3x3.Slices ![0, 0, 0, 2] S64x64x1x1
  slices_S128x64x7x7_S128x64x5x5_0_0_1_0 : S128x64x7x7.Slices ![0, 0, 1, 0] S128x64x5x5
  slices_S64x64x3x3_S64x64x1x1_0_0_1_0 : S64x64x3x3.Slices ![0, 0, 1, 0] S64x64x1x1
  slices_S128x64x7x7_S128x64x5x5_0_0_1_1 : S128x64x7x7.Slices ![0, 0, 1, 1] S128x64x5x5
  slices_S64x64x3x3_S64x64x1x1_0_0_1_1 : S64x64x3x3.Slices ![0, 0, 1, 1] S64x64x1x1
  slices_S128x64x7x7_S128x64x5x5_0_0_1_2 : S128x64x7x7.Slices ![0, 0, 1, 2] S128x64x5x5
  slices_S64x64x3x3_S64x64x1x1_0_0_1_2 : S64x64x3x3.Slices ![0, 0, 1, 2] S64x64x1x1
  slices_S128x64x7x7_S128x64x5x5_0_0_2_0 : S128x64x7x7.Slices ![0, 0, 2, 0] S128x64x5x5
  slices_S64x64x3x3_S64x64x1x1_0_0_2_0 : S64x64x3x3.Slices ![0, 0, 2, 0] S64x64x1x1
  slices_S128x64x7x7_S128x64x5x5_0_0_2_1 : S128x64x7x7.Slices ![0, 0, 2, 1] S128x64x5x5
  slices_S64x64x3x3_S64x64x1x1_0_0_2_1 : S64x64x3x3.Slices ![0, 0, 2, 1] S64x64x1x1
  slices_S128x64x7x7_S128x64x5x5_0_0_2_2 : S128x64x7x7.Slices ![0, 0, 2, 2] S128x64x5x5
  slices_S64x64x3x3_S64x64x1x1_0_0_2_2 : S64x64x3x3.Slices ![0, 0, 2, 2] S64x64x1x1
  bcast_S64_S1x64x1x1_1 : S64.BroadcastsInDim S1x64x1x1 (![1] : Fin 1 → Fin S1x64x1x1.rank)
  bcast_S1x64x1x1_S128x64x5x5_0_1_2_3 : S1x64x1x1.BroadcastsInDim S128x64x5x5 (![0, 1, 2, 3] : Fin 4 → Fin S128x64x5x5.rank)
  slicesBy_S128x64x7x7_S128x64x3x3_0s1_0s1_0s2_0s2 : S128x64x7x7.SlicesBy (![0, 0, 0, 0] : Fin 4 → Nat) ![1, 1, 2, 2] S128x64x3x3
  slicesBy_S128x64x7x7_S128x64x3x3_0s1_0s1_0s2_1s2 : S128x64x7x7.SlicesBy (![0, 0, 0, 1] : Fin 4 → Nat) ![1, 1, 2, 2] S128x64x3x3
  slicesBy_S128x64x7x7_S128x64x3x3_0s1_0s1_1s2_0s2 : S128x64x7x7.SlicesBy (![0, 0, 1, 0] : Fin 4 → Nat) ![1, 1, 2, 2] S128x64x3x3
  slicesBy_S128x64x7x7_S128x64x3x3_0s1_0s1_1s2_1s2 : S128x64x7x7.SlicesBy (![0, 0, 1, 1] : Fin 4 → Nat) ![1, 1, 2, 2] S128x64x3x3
  pads_S128x64x3x3_S128x64x5x5_000_000_110_110 : S128x64x3x3.Pads (![0, 0, 1, 1] : Fin 4 → Nat) ![0, 0, 1, 1] ![0, 0, 0, 0] S128x64x5x5
  bcast_S_S128x1x3x3 : S_.BroadcastsInDim S128x1x3x3 (![] : Fin 0 → Fin S128x1x3x3.rank)
  slices_S128x64x5x5_S128x64x3x3_0_0_0_0 : S128x64x5x5.Slices ![0, 0, 0, 0] S128x64x3x3
  slices_S1x64x3x3_S1x64x1x1_0_0_0_0 : S1x64x3x3.Slices ![0, 0, 0, 0] S1x64x1x1
  shapeCasts_S1x64x1x1_S1x64 : S1x64x1x1.ShapeCasts S1x64
  transposes_S1x128x3x3_S128x1x3x3_1_0_2_3 : S1x128x3x3.Transposes [1, 0, 2, 3] S128x1x3x3
  slices_S128x64x5x5_S128x64x3x3_0_0_0_1 : S128x64x5x5.Slices ![0, 0, 0, 1] S128x64x3x3
  slices_S1x64x3x3_S1x64x1x1_0_0_0_1 : S1x64x3x3.Slices ![0, 0, 0, 1] S1x64x1x1
  slices_S128x64x5x5_S128x64x3x3_0_0_0_2 : S128x64x5x5.Slices ![0, 0, 0, 2] S128x64x3x3
  slices_S1x64x3x3_S1x64x1x1_0_0_0_2 : S1x64x3x3.Slices ![0, 0, 0, 2] S1x64x1x1
  slices_S128x64x5x5_S128x64x3x3_0_0_1_0 : S128x64x5x5.Slices ![0, 0, 1, 0] S128x64x3x3
  slices_S1x64x3x3_S1x64x1x1_0_0_1_0 : S1x64x3x3.Slices ![0, 0, 1, 0] S1x64x1x1
  slices_S128x64x5x5_S128x64x3x3_0_0_1_1 : S128x64x5x5.Slices ![0, 0, 1, 1] S128x64x3x3
  slices_S1x64x3x3_S1x64x1x1_0_0_1_1 : S1x64x3x3.Slices ![0, 0, 1, 1] S1x64x1x1
  slices_S128x64x5x5_S128x64x3x3_0_0_1_2 : S128x64x5x5.Slices ![0, 0, 1, 2] S128x64x3x3
  slices_S1x64x3x3_S1x64x1x1_0_0_1_2 : S1x64x3x3.Slices ![0, 0, 1, 2] S1x64x1x1
  slices_S128x64x5x5_S128x64x3x3_0_0_2_0 : S128x64x5x5.Slices ![0, 0, 2, 0] S128x64x3x3
  slices_S1x64x3x3_S1x64x1x1_0_0_2_0 : S1x64x3x3.Slices ![0, 0, 2, 0] S1x64x1x1
  slices_S128x64x5x5_S128x64x3x3_0_0_2_1 : S128x64x5x5.Slices ![0, 0, 2, 1] S128x64x3x3
  slices_S1x64x3x3_S1x64x1x1_0_0_2_1 : S1x64x3x3.Slices ![0, 0, 2, 1] S1x64x1x1
  slices_S128x64x5x5_S128x64x3x3_0_0_2_2 : S128x64x5x5.Slices ![0, 0, 2, 2] S128x64x3x3
  slices_S1x64x3x3_S1x64x1x1_0_0_2_2 : S1x64x3x3.Slices ![0, 0, 2, 2] S1x64x1x1
  bcast_S1_S1x1x1x1_1 : S1.BroadcastsInDim S1x1x1x1 (![1] : Fin 1 → Fin S1x1x1x1.rank)
  bcast_S1x1x1x1_S128x1x3x3_0_1_2_3 : S1x1x1x1.BroadcastsInDim S128x1x3x3 (![0, 1, 2, 3] : Fin 4 → Fin S128x1x3x3.rank)
  pads_S128x1x3x3_S128x1x5x5_000_000_110_110 : S128x1x3x3.Pads (![0, 0, 1, 1] : Fin 4 → Nat) ![0, 0, 1, 1] ![0, 0, 0, 0] S128x1x5x5
  slicesBy_S128x1x5x5_S128x1x2x2_0s1_0s1_0s2_0s2 : S128x1x5x5.SlicesBy (![0, 0, 0, 0] : Fin 4 → Nat) ![1, 1, 2, 2] S128x1x2x2
  slicesBy_S128x1x5x5_S128x1x2x2_0s1_0s1_0s2_1s2 : S128x1x5x5.SlicesBy (![0, 0, 0, 1] : Fin 4 → Nat) ![1, 1, 2, 2] S128x1x2x2
  slicesBy_S128x1x5x5_S128x1x2x2_0s1_0s1_1s2_0s2 : S128x1x5x5.SlicesBy (![0, 0, 1, 0] : Fin 4 → Nat) ![1, 1, 2, 2] S128x1x2x2
  slicesBy_S128x1x5x5_S128x1x2x2_0s1_0s1_1s2_1s2 : S128x1x5x5.SlicesBy (![0, 0, 1, 1] : Fin 4 → Nat) ![1, 1, 2, 2] S128x1x2x2
  shapeCasts_S128x1x2x2_S128x4 : S128x1x2x2.ShapeCasts S128x4
  transposes_S8x4_S4x8_1_0 : S8x4.Transposes [1, 0] S4x8
  bcast_S8_S1x8_1 : S8.BroadcastsInDim S1x8 (![1] : Fin 1 → Fin S1x8.rank)
  bcast_S1x8_S128x8_0_1 : S1x8.BroadcastsInDim S128x8 (![0, 1] : Fin 2 → Fin S128x8.rank)
  bcast_S_S128x8 : S_.BroadcastsInDim S128x8 (![] : Fin 0 → Fin S128x8.rank)
  transposes_S1x8_S8x1_1_0 : S1x8.Transposes [1, 0] S8x1
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  bcast_S_S128x1 : S_.BroadcastsInDim S128x1 (![] : Fin 0 → Fin S128x1.rank)
  bcast_S128x1_S128x1600_0_1 : S128x1.BroadcastsInDim S128x1600 (![0, 1] : Fin 2 → Fin S128x1600.rank)
  bcast_S128x1600_S128x1x1600_0_2 : S128x1600.BroadcastsInDim S128x1x1600 (![0, 2] : Fin 2 → Fin S128x1x1600.rank)
  bcast_S128x1600_S1x128x1600_1_2 : S128x1600.BroadcastsInDim S1x128x1600 (![1, 2] : Fin 2 → Fin S1x128x1600.rank)
  bcast_S128x1x1600_S128x128x1600_0_1_2 : S128x1x1600.BroadcastsInDim S128x128x1600 (![0, 1, 2] : Fin 3 → Fin S128x128x1600.rank)
  bcast_S1x128x1600_S128x128x1600_0_1_2 : S1x128x1600.BroadcastsInDim S128x128x1600 (![0, 1, 2] : Fin 3 → Fin S128x128x1600.rank)
  reducesTo_S128x128x1600_S128x128_d2 : S128x128x1600.ReducesTo [2] S128x128
  bcast_S_S128x128 : S_.BroadcastsInDim S128x128 (![] : Fin 0 → Fin S128x128.rank)
  bcast_S128x128_S1x128x128_1_2 : S128x128.BroadcastsInDim S1x128x128 (![1, 2] : Fin 2 → Fin S1x128x128.rank)
  bcast_S_S128x1600 : S_.BroadcastsInDim S128x1600 (![] : Fin 0 → Fin S128x1600.rank)
  bcast_S_S64 : S_.BroadcastsInDim S64 (![] : Fin 0 → Fin S64.rank)
  bcast_S_S1 : S_.BroadcastsInDim S1 (![] : Fin 0 → Fin S1.rank)
  bcast_S_S1000 : S_.BroadcastsInDim S1000 (![] : Fin 0 → Fin S1000.rank)
  bcast_S128x128_S128x128x1_0_1 : S128x128.BroadcastsInDim S128x128x1 (![0, 1] : Fin 2 → Fin S128x128x1.rank)
  bcast_S128x128_S128x1x128_0_2 : S128x128.BroadcastsInDim S128x1x128 (![0, 2] : Fin 2 → Fin S128x1x128.rank)
  bcast_S128x128x1_S128x128x128_0_1_2 : S128x128x1.BroadcastsInDim S128x128x128 (![0, 1, 2] : Fin 3 → Fin S128x128x128.rank)
  bcast_S128x1x128_S128x128x128_0_1_2 : S128x1x128.BroadcastsInDim S128x128x128 (![0, 1, 2] : Fin 3 → Fin S128x128x128.rank)
  bcast_S1x128x128_S128x128x128_0_1_2 : S1x128x128.BroadcastsInDim S128x128x128 (![0, 1, 2] : Fin 3 → Fin S128x128x128.rank)
  dot_S64x64_S128x64x5x5_S64x128x5x5_1_1_0_023_n_n_wf : DotDims.WF S64x64 S128x64x5x5 S64x128x5x5 [1] [1] [0] [0, 2, 3] [] []
  dot_S1x64_S128x64x3x3_S1x128x3x3_1_1_0_023_n_n_wf : DotDims.WF S1x64 S128x64x3x3 S1x128x3x3 [1] [1] [0] [0, 2, 3] [] []
  dot_S128x4_S4x8_S128x8_1_0_0_1_n_n_wf : DotDims.WF S128x4 S4x8 S128x8 [1] [0] [0] [1] [] []
  dot_S128x8_S8x1_S128x1_1_0_0_1_n_n_wf : DotDims.WF S128x8 S8x1 S128x1 [1] [0] [0] [1] [] []

variable [Facts]

def dot_S64x64_S128x64x5x5_S64x128x5x5_1_1_0_023_n_n : DotDims S64x64 S128x64x5x5 S64x128x5x5 where
  lhsContracting := [1]
  rhsContracting := [1]
  lhsNonContracting := [0]
  rhsNonContracting := [0, 2, 3]
  lhsBatch := []
  rhsBatch := []
  wf := dot_S64x64_S128x64x5x5_S64x128x5x5_1_1_0_023_n_n_wf
def dot_S1x64_S128x64x3x3_S1x128x3x3_1_1_0_023_n_n : DotDims S1x64 S128x64x3x3 S1x128x3x3 where
  lhsContracting := [1]
  rhsContracting := [1]
  lhsNonContracting := [0]
  rhsNonContracting := [0, 2, 3]
  lhsBatch := []
  rhsBatch := []
  wf := dot_S1x64_S128x64x3x3_S1x128x3x3_1_1_0_023_n_n_wf
def dot_S128x4_S4x8_S128x8_1_0_0_1_n_n : DotDims S128x4 S4x8 S128x8 where
  lhsContracting := [1]
  rhsContracting := [0]
  lhsNonContracting := [0]
  rhsNonContracting := [1]
  lhsBatch := []
  rhsBatch := []
  wf := dot_S128x4_S4x8_S128x8_1_0_0_1_n_n_wf
def dot_S128x8_S8x1_S128x1_1_0_0_1_n_n : DotDims S128x8 S8x1 S128x1 where
  lhsContracting := [1]
  rhsContracting := [0]
  lhsNonContracting := [0]
  rhsNonContracting := [1]
  lhsBatch := []
  rhsBatch := []
  wf := dot_S128x8_S8x1_S128x1_1_0_0_1_n_n_wf
def fn_pad {F : FTy → Type} [FloatOps F] (arg0 : FVec F S128x64x5x5 .f32) (arg1 : IVec S_ 32) : FVec F S128x64x7x7 .f32 :=
  let v0 : FVec F S_ .f32 := sitofp .f32 arg1
  let v1 : FVec F S128x64x7x7 .f32 := (fun x v => pad S128x64x7x7 ![0, 0, 1, 1] ![0, 0, 1, 1] ![0, 0, 0, 0] x v pads_S128x64x5x5_S128x64x7x7_000_000_110_110 h_S_) arg0 v0
  v1

def fn_pad_0 {F : FTy → Type} [FloatOps F] (arg0 : FVec F S128x64x5x5 .f32) (arg1 : FVec F S_ .f32) : FVec F S128x64x7x7 .f32 :=
  let v0 : FVec F S_ .f32 := id arg1
  let v1 : FVec F S128x64x7x7 .f32 := (fun x v => pad S128x64x7x7 ![0, 0, 1, 1] ![0, 0, 1, 1] ![0, 0, 0, 0] x v pads_S128x64x5x5_S128x64x7x7_000_000_110_110 h_S_) arg0 v0
  v1

def fn_pad_1 {F : FTy → Type} [FloatOps F] (arg0 : FVec F S128x64x3x3 .f32) (arg1 : IVec S_ 32) : FVec F S128x64x5x5 .f32 :=
  let v0 : FVec F S_ .f32 := sitofp .f32 arg1
  let v1 : FVec F S128x64x5x5 .f32 := (fun x v => pad S128x64x5x5 ![0, 0, 1, 1] ![0, 0, 1, 1] ![0, 0, 0, 0] x v pads_S128x64x3x3_S128x64x5x5_000_000_110_110 h_S_) arg0 v0
  v1

def fn_pad_2 {F : FTy → Type} [FloatOps F] (arg0 : FVec F S128x1x3x3 .f32) (arg1 : FVec F S_ .f32) : FVec F S128x1x5x5 .f32 :=
  let v0 : FVec F S_ .f32 := id arg1
  let v1 : FVec F S128x1x5x5 .f32 := (fun x v => pad S128x1x5x5 ![0, 0, 1, 1] ![0, 0, 1, 1] ![0, 0, 0, 0] x v pads_S128x1x3x3_S128x1x5x5_000_000_110_110 h_S_) arg0 v0
  v1

def fn_part10 {F : FTy → Type} [FloatOps F] (main_v188 : IVec S128x1600 1) (main_v191 : IVec S64 1) (main_v194 : IVec S64 1) (main_v197 : IVec S1 1) (main_v200 : IVec S1 1) (main_v203 : IVec S1000 1) (main_v206 : IVec S1000 1) (main_v210 : IVec S128x1 1) (main_v215 : IVec S128x128x128 1) (main_v216 : IVec S1x128x128 1) : IVec S128x1600 1 × IVec S64 1 × IVec S64 1 × IVec S1 1 × IVec S1 1 × IVec S1000 1 × IVec S1000 1 × IVec S128x1 1 × IVec S128x128x128 1 :=
  let main_v217 : IVec S128x128x128 1 := broadcastInDim S128x128x128 ![0, 1, 2] bcast_S1x128x128_S128x128x128_0_1_2 main_v216
  let main_v218 : IVec S128x128x128 1 := ori main_v215 main_v217
  (main_v188, main_v191, main_v194, main_v197, main_v200, main_v203, main_v206, main_v210, main_v218)

def fn_part9 {F : FTy → Type} [FloatOps F] (main_arg6 : FVec F S1 .f32) (main_arg14 : FVec F S1000 .f32) (main_arg15 : FVec F S1000 .f32) (main_v167 : FVec F S128x1 .f32) (main_v178 : FVec F S128x128 .f32) (main_v185 : IVec S1x128x128 1) (main_v188 : IVec S128x1600 1) (main_v191 : IVec S64 1) (main_v194 : IVec S64 1) (main_v197 : IVec S1 1) : IVec S128x1600 1 × IVec S64 1 × IVec S64 1 × IVec S1 1 × IVec S1 1 × IVec S1000 1 × IVec S1000 1 × IVec S128x1 1 × IVec S128x128x128 1 :=
  let main_v198 : FVec F S1 .f32 := Host.absf main_arg6
  let main_cst_16 : FVec F S_ .f32 := constant S_ .f32 0x7F800000#32
  let main_v199 : FVec F S1 .f32 := broadcastInDim S1 ![] bcast_S_S1 main_cst_16
  let main_v200 : IVec S1 1 := cmpf .olt main_v198 main_v199
  let main_v201 : FVec F S1000 .f32 := Host.absf main_arg15
  let main_cst_17 : FVec F S_ .f32 := constant S_ .f32 0x7F800000#32
  let main_v202 : FVec F S1000 .f32 := broadcastInDim S1000 ![] bcast_S_S1000 main_cst_17
  let main_v203 : IVec S1000 1 := cmpf .olt main_v201 main_v202
  let main_v204 : FVec F S1000 .f32 := Host.absf main_arg14
  let main_cst_18 : FVec F S_ .f32 := constant S_ .f32 0x7F800000#32
  let main_v205 : FVec F S1000 .f32 := broadcastInDim S1000 ![] bcast_S_S1000 main_cst_18
  let main_v206 : IVec S1000 1 := cmpf .olt main_v204 main_v205
  let main_cst_19 : FVec F S_ .f32 := constant S_ .f32 0x25800000#32
  let main_v207 : FVec F S128x1 .f32 := broadcastInDim S128x1 ![] bcast_S_S128x1 main_cst_19
  let main_v208 : FVec F S128x1 .f32 := addf main_v167 main_v207
  let main_cst_20 : FVec F S_ .f32 := constant S_ .f32 0x00000000#32
  let main_v209 : FVec F S128x1 .f32 := broadcastInDim S128x1 ![] bcast_S_S128x1 main_cst_20
  let main_v210 : IVec S128x1 1 := cmpf .une main_v208 main_v209
  let main_v211 : FVec F S128x128x1 .f32 := broadcastInDim S128x128x1 ![0, 1] bcast_S128x128_S128x128x1_0_1 main_v178
  let main_v212 : FVec F S128x1x128 .f32 := broadcastInDim S128x1x128 ![0, 2] bcast_S128x128_S128x1x128_0_2 main_v178
  let main_v213 : FVec F S128x128x128 .f32 := broadcastInDim S128x128x128 ![0, 1, 2] bcast_S128x128x1_S128x128x128_0_1_2 main_v211
  let main_v214 : FVec F S128x128x128 .f32 := broadcastInDim S128x128x128 ![0, 1, 2] bcast_S128x1x128_S128x128x128_0_1_2 main_v212
  let main_v215 : IVec S128x128x128 1 := cmpf .une main_v213 main_v214
  let main_v216 : IVec S1x128x128 1 := noti main_v185
  fn_part10 (F := F) main_v188 main_v191 main_v194 main_v197 main_v200 main_v203 main_v206 main_v210 main_v215 main_v216

def fn_part8 {F : FTy → Type} [FloatOps F] (main_arg0 : FVec F S128x1600 .f32) (main_arg2 : FVec F S64 .f32) (main_arg3 : FVec F S64 .f32) (main_arg6 : FVec F S1 .f32) (main_arg7 : FVec F S1 .f32) (main_arg14 : FVec F S1000 .f32) (main_arg15 : FVec F S1000 .f32) (main_v167 : FVec F S128x1 .f32) (main_v178 : FVec F S128x128 .f32) : IVec S128x1600 1 × IVec S64 1 × IVec S64 1 × IVec S1 1 × IVec S1 1 × IVec S1000 1 × IVec S1000 1 × IVec S128x1 1 × IVec S128x128x128 1 :=
  let main_v179 : IVec S128x128 32 := iotaInDim S128x128 32 0
  let main_v180 : IVec S128x128 32 := iotaInDim S128x128 32 1
  let main_c_11 : IVec S_ 32 := constantI S_ 32 0#32
  let main_v181 : IVec S128x128 32 := broadcastInDim S128x128 ![] bcast_S_S128x128 main_c_11
  let main_v182 : IVec S128x128 32 := addi main_v179 main_v181
  let main_v183 : IVec S128x128 1 := cmpi .eq main_v182 main_v180
  let main_v184 : IVec S128x128 1 := noti main_v183
  let main_v185 : IVec S1x128x128 1 := broadcastInDim S1x128x128 ![1, 2] bcast_S128x128_S1x128x128_1_2 main_v184
  let main_v186 : FVec F S128x1600 .f32 := Host.absf main_arg0
  let main_cst_12 : FVec F S_ .f32 := constant S_ .f32 0x7F800000#32
  let main_v187 : FVec F S128x1600 .f32 := broadcastInDim S128x1600 ![] bcast_S_S128x1600 main_cst_12
  let main_v188 : IVec S128x1600 1 := cmpf .olt main_v186 main_v187
  let main_v189 : FVec F S64 .f32 := Host.absf main_arg3
  let main_cst_13 : FVec F S_ .f32 := constant S_ .f32 0x7F800000#32
  let main_v190 : FVec F S64 .f32 := broadcastInDim S64 ![] bcast_S_S64 main_cst_13
  let main_v191 : IVec S64 1 := cmpf .olt main_v189 main_v190
  let main_v192 : FVec F S64 .f32 := Host.absf main_arg2
  let main_cst_14 : FVec F S_ .f32 := constant S_ .f32 0x7F800000#32
  let main_v193 : FVec F S64 .f32 := broadcastInDim S64 ![] bcast_S_S64 main_cst_14
  let main_v194 : IVec S64 1 := cmpf .olt main_v192 main_v193
  let main_v195 : FVec F S1 .f32 := Host.absf main_arg7
  let main_cst_15 : FVec F S_ .f32 := constant S_ .f32 0x7F800000#32
  let main_v196 : FVec F S1 .f32 := broadcastInDim S1 ![] bcast_S_S1 main_cst_15
  let main_v197 : IVec S1 1 := cmpf .olt main_v195 main_v196
  fn_part9 (F := F) main_arg6 main_arg14 main_arg15 main_v167 main_v178 main_v185 main_v188 main_v191 main_v194 main_v197

def fn_part7 {F : FTy → Type} [FloatOps F] (main_arg0 : FVec F S128x1600 .f32) (main_arg2 : FVec F S64 .f32) (main_arg3 : FVec F S64 .f32) (main_arg6 : FVec F S1 .f32) (main_arg7 : FVec F S1 .f32) (main_arg10 : FVec F S8 .f32) (main_arg11 : FVec F S1x8 .f32) (main_arg12 : FVec F S1 .f32) (main_arg14 : FVec F S1000 .f32) (main_arg15 : FVec F S1000 .f32) (main_v157 : FVec F S128x8 .f32) : IVec S128x1600 1 × IVec S64 1 × IVec S64 1 × IVec S1 1 × IVec S1 1 × IVec S1000 1 × IVec S1000 1 × IVec S128x1 1 × IVec S128x128x128 1 :=
  let main_v158 : FVec F S1x8 .f32 := broadcastInDim S1x8 ![1] bcast_S8_S1x8_1 main_arg10
  let main_v159 : FVec F S128x8 .f32 := broadcastInDim S128x8 ![0, 1] bcast_S1x8_S128x8_0_1 main_v158
  let main_v160 : FVec F S128x8 .f32 := addf main_v157 main_v159
  let main_cst_8 : FVec F S_ .f32 := constant S_ .f32 0x00000000#32
  let main_v161 : FVec F S128x8 .f32 := broadcastInDim S128x8 ![] bcast_S_S128x8 main_cst_8
  let main_v162 : FVec F S128x8 .f32 := maximumf main_v160 main_v161
  let main_v163 : FVec F S8x1 .f32 := (transpose S8x1 [1, 0] · transposes_S1x8_S8x1_1_0) main_arg11
  let main_v164 : FVec F S128x1 .f32 := (fun l r => Host.dotGeneral dot_S128x8_S8x1_S128x1_1_0_0_1_n_n none l r) main_v162 main_v163
  let main_v165 : FVec F S1x1 .f32 := broadcastInDim S1x1 ![1] bcast_S1_S1x1_1 main_arg12
  let main_v166 : FVec F S128x1 .f32 := broadcastInDim S128x1 ![0, 1] bcast_S1x1_S128x1_0_1 main_v165
  let main_v167 : FVec F S128x1 .f32 := addf main_v164 main_v166
  let main_cst_9 : FVec F S_ .f32 := constant S_ .f32 0x25800000#32
  let main_v168 : FVec F S128x1 .f32 := broadcastInDim S128x1 ![] bcast_S_S128x1 main_cst_9
  let main_v169 : FVec F S128x1 .f32 := addf main_v167 main_v168
  let main_v170 : FVec F S128x1600 .f32 := broadcastInDim S128x1600 ![0, 1] bcast_S128x1_S128x1600_0_1 main_v169
  let main_v171 : FVec F S128x1600 .f32 := Host.divf main_arg0 main_v170
  let main_v172 : FVec F S128x1x1600 .f32 := broadcastInDim S128x1x1600 ![0, 2] bcast_S128x1600_S128x1x1600_0_2 main_v171
  let main_v173 : FVec F S1x128x1600 .f32 := broadcastInDim S1x128x1600 ![1, 2] bcast_S128x1600_S1x128x1600_1_2 main_v171
  let main_v174 : FVec F S128x128x1600 .f32 := broadcastInDim S128x128x1600 ![0, 1, 2] bcast_S128x1x1600_S128x128x1600_0_1_2 main_v172
  let main_v175 : FVec F S128x128x1600 .f32 := broadcastInDim S128x128x1600 ![0, 1, 2] bcast_S1x128x1600_S128x128x1600_0_1_2 main_v173
  let main_v176 : FVec F S128x128x1600 .f32 := subf main_v174 main_v175
  let main_v177 : FVec F S128x128x1600 .f32 := mulf main_v176 main_v176
  let main_cst_10 : FVec F S_ .f32 := constant S_ .f32 0x00000000#32
  let main_v178 : FVec F S128x128 .f32 := (fun x v => Host.reduceAdd x v reducesTo_S128x128x1600_S128x128_d2 h_S_) main_v177 main_cst_10
  fn_part8 (F := F) main_arg0 main_arg2 main_arg3 main_arg6 main_arg7 main_arg14 main_arg15 main_v167 main_v178

def fn_part6 {F : FTy → Type} [FloatOps F] (main_arg0 : FVec F S128x1600 .f32) (main_arg2 : FVec F S64 .f32) (main_arg3 : FVec F S64 .f32) (main_arg6 : FVec F S1 .f32) (main_arg7 : FVec F S1 .f32) (main_arg8 : FVec F S1 .f32) (main_arg9 : FVec F S8x4 .f32) (main_arg10 : FVec F S8 .f32) (main_arg11 : FVec F S1x8 .f32) (main_arg12 : FVec F S1 .f32) (main_arg14 : FVec F S1000 .f32) (main_arg15 : FVec F S1000 .f32) (main_v136 : FVec F S128x1x3x3 .f32) : IVec S128x1600 1 × IVec S64 1 × IVec S64 1 × IVec S1 1 × IVec S1 1 × IVec S1000 1 × IVec S1000 1 × IVec S128x1 1 × IVec S128x128x128 1 :=
  let main_v137 : FVec F S1x1x1x1 .f32 := broadcastInDim S1x1x1x1 ![1] bcast_S1_S1x1x1x1_1 main_arg7
  let main_v138 : FVec F S1x1x1x1 .f32 := broadcastInDim S1x1x1x1 ![1] bcast_S1_S1x1x1x1_1 main_arg8
  let main_cst_5 : FVec F S_ .f32 := constant S_ .f32 0x3F7FFFAC#32
  let main_v139 : FVec F S128x1x3x3 .f32 := broadcastInDim S128x1x3x3 ![] bcast_S_S128x1x3x3 main_cst_5
  let main_v140 : FVec F S128x1x3x3 .f32 := mulf main_v136 main_v139
  let main_v141 : FVec F S128x1x3x3 .f32 := broadcastInDim S128x1x3x3 ![0, 1, 2, 3] bcast_S1x1x1x1_S128x1x3x3_0_1_2_3 main_v137
  let main_v142 : FVec F S128x1x3x3 .f32 := mulf main_v140 main_v141
  let main_v143 : FVec F S128x1x3x3 .f32 := broadcastInDim S128x1x3x3 ![0, 1, 2, 3] bcast_S1x1x1x1_S128x1x3x3_0_1_2_3 main_v138
  let main_v144 : FVec F S128x1x3x3 .f32 := addf main_v142 main_v143
  let main_cst_6 : FVec F S_ .f32 := constant S_ .f32 0x00000000#32
  let main_v145 : FVec F S128x1x3x3 .f32 := broadcastInDim S128x1x3x3 ![] bcast_S_S128x1x3x3 main_cst_6
  let main_v146 : FVec F S128x1x3x3 .f32 := maximumf main_v144 main_v145
  let main_cst_7 : FVec F S_ .f32 := constant S_ .f32 0xFF800000#32
  let main_v147 : FVec F S128x1x5x5 .f32 := fn_pad_2 (F := F) main_v146 main_cst_7
  let main_v148 : FVec F S128x1x2x2 .f32 := (Host.slice S128x1x2x2 ![0, 0, 0, 0] ![1, 1, 2, 2] · slicesBy_S128x1x5x5_S128x1x2x2_0s1_0s1_0s2_0s2) main_v147
  let main_v149 : FVec F S128x1x2x2 .f32 := (Host.slice S128x1x2x2 ![0, 0, 0, 1] ![1, 1, 2, 2] · slicesBy_S128x1x5x5_S128x1x2x2_0s1_0s1_0s2_1s2) main_v147
  let main_v150 : FVec F S128x1x2x2 .f32 := maximumf main_v148 main_v149
  let main_v151 : FVec F S128x1x2x2 .f32 := (Host.slice S128x1x2x2 ![0, 0, 1, 0] ![1, 1, 2, 2] · slicesBy_S128x1x5x5_S128x1x2x2_0s1_0s1_1s2_0s2) main_v147
  let main_v152 : FVec F S128x1x2x2 .f32 := (Host.slice S128x1x2x2 ![0, 0, 1, 1] ![1, 1, 2, 2] · slicesBy_S128x1x5x5_S128x1x2x2_0s1_0s1_1s2_1s2) main_v147
  let main_v153 : FVec F S128x1x2x2 .f32 := maximumf main_v151 main_v152
  let main_v154 : FVec F S128x1x2x2 .f32 := maximumf main_v150 main_v153
  let main_v155 : FVec F S128x4 .f32 := shapeCast S128x4 main_v154 shapeCasts_S128x1x2x2_S128x4
  let main_v156 : FVec F S4x8 .f32 := (transpose S4x8 [1, 0] · transposes_S8x4_S4x8_1_0) main_arg9
  let main_v157 : FVec F S128x8 .f32 := (fun l r => Host.dotGeneral dot_S128x4_S4x8_S128x8_1_0_0_1_n_n none l r) main_v155 main_v156
  fn_part7 (F := F) main_arg0 main_arg2 main_arg3 main_arg6 main_arg7 main_arg10 main_arg11 main_arg12 main_arg14 main_arg15 main_v157

def fn_part5 {F : FTy → Type} [FloatOps F] (main_arg0 : FVec F S128x1600 .f32) (main_arg2 : FVec F S64 .f32) (main_arg3 : FVec F S64 .f32) (main_arg5 : FVec F S1x64x3x3 .f32) (main_arg6 : FVec F S1 .f32) (main_arg7 : FVec F S1 .f32) (main_arg8 : FVec F S1 .f32) (main_arg9 : FVec F S8x4 .f32) (main_arg10 : FVec F S8 .f32) (main_arg11 : FVec F S1x8 .f32) (main_arg12 : FVec F S1 .f32) (main_arg14 : FVec F S1000 .f32) (main_arg15 : FVec F S1000 .f32) (main_v78 : FVec F S128x64x5x5 .f32) (main_v109 : FVec F S128x1x3x3 .f32) (main_v110 : FVec F S128x64x3x3 .f32) (main_v112 : FVec F S1x64 .f32) : IVec S128x1600 1 × IVec S64 1 × IVec S64 1 × IVec S1 1 × IVec S1 1 × IVec S1000 1 × IVec S1000 1 × IVec S128x1 1 × IVec S128x128x128 1 :=
  let main_v113 : FVec F S1x128x3x3 .f32 := (fun l r => Host.dotGeneral dot_S1x64_S128x64x3x3_S1x128x3x3_1_1_0_023_n_n none l r) main_v112 main_v110
  let main_v114 : FVec F S128x1x3x3 .f32 := (transpose S128x1x3x3 [1, 0, 2, 3] · transposes_S1x128x3x3_S128x1x3x3_1_0_2_3) main_v113
  let main_v115 : FVec F S128x1x3x3 .f32 := addf main_v109 main_v114
  let main_v116 : FVec F S128x64x3x3 .f32 := (extractStridedSlice S128x64x3x3 ![0, 0, 2, 0] · slices_S128x64x5x5_S128x64x3x3_0_0_2_0) main_v78
  let main_v117 : FVec F S1x64x1x1 .f32 := (extractStridedSlice S1x64x1x1 ![0, 0, 2, 0] · slices_S1x64x3x3_S1x64x1x1_0_0_2_0) main_arg5
  let main_v118 : FVec F S1x64 .f32 := shapeCast S1x64 main_v117 shapeCasts_S1x64x1x1_S1x64
  let main_v119 : FVec F S1x128x3x3 .f32 := (fun l r => Host.dotGeneral dot_S1x64_S128x64x3x3_S1x128x3x3_1_1_0_023_n_n none l r) main_v118 main_v116
  let main_v120 : FVec F S128x1x3x3 .f32 := (transpose S128x1x3x3 [1, 0, 2, 3] · transposes_S1x128x3x3_S128x1x3x3_1_0_2_3) main_v119
  let main_v121 : FVec F S128x1x3x3 .f32 := addf main_v115 main_v120
  let main_v122 : FVec F S128x64x3x3 .f32 := (extractStridedSlice S128x64x3x3 ![0, 0, 2, 1] · slices_S128x64x5x5_S128x64x3x3_0_0_2_1) main_v78
  let main_v123 : FVec F S1x64x1x1 .f32 := (extractStridedSlice S1x64x1x1 ![0, 0, 2, 1] · slices_S1x64x3x3_S1x64x1x1_0_0_2_1) main_arg5
  let main_v124 : FVec F S1x64 .f32 := shapeCast S1x64 main_v123 shapeCasts_S1x64x1x1_S1x64
  let main_v125 : FVec F S1x128x3x3 .f32 := (fun l r => Host.dotGeneral dot_S1x64_S128x64x3x3_S1x128x3x3_1_1_0_023_n_n none l r) main_v124 main_v122
  let main_v126 : FVec F S128x1x3x3 .f32 := (transpose S128x1x3x3 [1, 0, 2, 3] · transposes_S1x128x3x3_S128x1x3x3_1_0_2_3) main_v125
  let main_v127 : FVec F S128x1x3x3 .f32 := addf main_v121 main_v126
  let main_v128 : FVec F S128x64x3x3 .f32 := (extractStridedSlice S128x64x3x3 ![0, 0, 2, 2] · slices_S128x64x5x5_S128x64x3x3_0_0_2_2) main_v78
  let main_v129 : FVec F S1x64x1x1 .f32 := (extractStridedSlice S1x64x1x1 ![0, 0, 2, 2] · slices_S1x64x3x3_S1x64x1x1_0_0_2_2) main_arg5
  let main_v130 : FVec F S1x64 .f32 := shapeCast S1x64 main_v129 shapeCasts_S1x64x1x1_S1x64
  let main_v131 : FVec F S1x128x3x3 .f32 := (fun l r => Host.dotGeneral dot_S1x64_S128x64x3x3_S1x128x3x3_1_1_0_023_n_n none l r) main_v130 main_v128
  let main_v132 : FVec F S128x1x3x3 .f32 := (transpose S128x1x3x3 [1, 0, 2, 3] · transposes_S1x128x3x3_S128x1x3x3_1_0_2_3) main_v131
  let main_v133 : FVec F S128x1x3x3 .f32 := addf main_v127 main_v132
  let main_v134 : FVec F S1x1x1x1 .f32 := broadcastInDim S1x1x1x1 ![1] bcast_S1_S1x1x1x1_1 main_arg6
  let main_v135 : FVec F S128x1x3x3 .f32 := broadcastInDim S128x1x3x3 ![0, 1, 2, 3] bcast_S1x1x1x1_S128x1x3x3_0_1_2_3 main_v134
  let main_v136 : FVec F S128x1x3x3 .f32 := addf main_v133 main_v135
  fn_part6 (F := F) main_arg0 main_arg2 main_arg3 main_arg6 main_arg7 main_arg8 main_arg9 main_arg10 main_arg11 main_arg12 main_arg14 main_arg15 main_v136

def fn_part4 {F : FTy → Type} [FloatOps F] (main_arg0 : FVec F S128x1600 .f32) (main_arg2 : FVec F S64 .f32) (main_arg3 : FVec F S64 .f32) (main_arg5 : FVec F S1x64x3x3 .f32) (main_arg6 : FVec F S1 .f32) (main_arg7 : FVec F S1 .f32) (main_arg8 : FVec F S1 .f32) (main_arg9 : FVec F S8x4 .f32) (main_arg10 : FVec F S8 .f32) (main_arg11 : FVec F S1x8 .f32) (main_arg12 : FVec F S1 .f32) (main_arg14 : FVec F S1000 .f32) (main_arg15 : FVec F S1000 .f32) (main_v78 : FVec F S128x64x5x5 .f32) (main_v85 : FVec F S128x1x3x3 .f32) (main_v86 : FVec F S128x64x3x3 .f32) (main_v88 : FVec F S1x64 .f32) : IVec S128x1600 1 × IVec S64 1 × IVec S64 1 × IVec S1 1 × IVec S1 1 × IVec S1000 1 × IVec S1000 1 × IVec S128x1 1 × IVec S128x128x128 1 :=
  let main_v89 : FVec F S1x128x3x3 .f32 := (fun l r => Host.dotGeneral dot_S1x64_S128x64x3x3_S1x128x3x3_1_1_0_023_n_n none l r) main_v88 main_v86
  let main_v90 : FVec F S128x1x3x3 .f32 := (transpose S128x1x3x3 [1, 0, 2, 3] · transposes_S1x128x3x3_S128x1x3x3_1_0_2_3) main_v89
  let main_v91 : FVec F S128x1x3x3 .f32 := addf main_v85 main_v90
  let main_v92 : FVec F S128x64x3x3 .f32 := (extractStridedSlice S128x64x3x3 ![0, 0, 0, 2] · slices_S128x64x5x5_S128x64x3x3_0_0_0_2) main_v78
  let main_v93 : FVec F S1x64x1x1 .f32 := (extractStridedSlice S1x64x1x1 ![0, 0, 0, 2] · slices_S1x64x3x3_S1x64x1x1_0_0_0_2) main_arg5
  let main_v94 : FVec F S1x64 .f32 := shapeCast S1x64 main_v93 shapeCasts_S1x64x1x1_S1x64
  let main_v95 : FVec F S1x128x3x3 .f32 := (fun l r => Host.dotGeneral dot_S1x64_S128x64x3x3_S1x128x3x3_1_1_0_023_n_n none l r) main_v94 main_v92
  let main_v96 : FVec F S128x1x3x3 .f32 := (transpose S128x1x3x3 [1, 0, 2, 3] · transposes_S1x128x3x3_S128x1x3x3_1_0_2_3) main_v95
  let main_v97 : FVec F S128x1x3x3 .f32 := addf main_v91 main_v96
  let main_v98 : FVec F S128x64x3x3 .f32 := (extractStridedSlice S128x64x3x3 ![0, 0, 1, 0] · slices_S128x64x5x5_S128x64x3x3_0_0_1_0) main_v78
  let main_v99 : FVec F S1x64x1x1 .f32 := (extractStridedSlice S1x64x1x1 ![0, 0, 1, 0] · slices_S1x64x3x3_S1x64x1x1_0_0_1_0) main_arg5
  let main_v100 : FVec F S1x64 .f32 := shapeCast S1x64 main_v99 shapeCasts_S1x64x1x1_S1x64
  let main_v101 : FVec F S1x128x3x3 .f32 := (fun l r => Host.dotGeneral dot_S1x64_S128x64x3x3_S1x128x3x3_1_1_0_023_n_n none l r) main_v100 main_v98
  let main_v102 : FVec F S128x1x3x3 .f32 := (transpose S128x1x3x3 [1, 0, 2, 3] · transposes_S1x128x3x3_S128x1x3x3_1_0_2_3) main_v101
  let main_v103 : FVec F S128x1x3x3 .f32 := addf main_v97 main_v102
  let main_v104 : FVec F S128x64x3x3 .f32 := (extractStridedSlice S128x64x3x3 ![0, 0, 1, 1] · slices_S128x64x5x5_S128x64x3x3_0_0_1_1) main_v78
  let main_v105 : FVec F S1x64x1x1 .f32 := (extractStridedSlice S1x64x1x1 ![0, 0, 1, 1] · slices_S1x64x3x3_S1x64x1x1_0_0_1_1) main_arg5
  let main_v106 : FVec F S1x64 .f32 := shapeCast S1x64 main_v105 shapeCasts_S1x64x1x1_S1x64
  let main_v107 : FVec F S1x128x3x3 .f32 := (fun l r => Host.dotGeneral dot_S1x64_S128x64x3x3_S1x128x3x3_1_1_0_023_n_n none l r) main_v106 main_v104
  let main_v108 : FVec F S128x1x3x3 .f32 := (transpose S128x1x3x3 [1, 0, 2, 3] · transposes_S1x128x3x3_S128x1x3x3_1_0_2_3) main_v107
  let main_v109 : FVec F S128x1x3x3 .f32 := addf main_v103 main_v108
  let main_v110 : FVec F S128x64x3x3 .f32 := (extractStridedSlice S128x64x3x3 ![0, 0, 1, 2] · slices_S128x64x5x5_S128x64x3x3_0_0_1_2) main_v78
  let main_v111 : FVec F S1x64x1x1 .f32 := (extractStridedSlice S1x64x1x1 ![0, 0, 1, 2] · slices_S1x64x3x3_S1x64x1x1_0_0_1_2) main_arg5
  let main_v112 : FVec F S1x64 .f32 := shapeCast S1x64 main_v111 shapeCasts_S1x64x1x1_S1x64
  fn_part5 (F := F) main_arg0 main_arg2 main_arg3 main_arg5 main_arg6 main_arg7 main_arg8 main_arg9 main_arg10 main_arg11 main_arg12 main_arg14 main_arg15 main_v78 main_v109 main_v110 main_v112

def fn_part3 {F : FTy → Type} [FloatOps F] (main_arg0 : FVec F S128x1600 .f32) (main_arg2 : FVec F S64 .f32) (main_arg3 : FVec F S64 .f32) (main_arg5 : FVec F S1x64x3x3 .f32) (main_arg6 : FVec F S1 .f32) (main_arg7 : FVec F S1 .f32) (main_arg8 : FVec F S1 .f32) (main_arg9 : FVec F S8x4 .f32) (main_arg10 : FVec F S8 .f32) (main_arg11 : FVec F S1x8 .f32) (main_arg12 : FVec F S1 .f32) (main_arg14 : FVec F S1000 .f32) (main_arg15 : FVec F S1000 .f32) (main_v67 : FVec F S128x64x5x5 .f32) (main_cst_1 : FVec F S_ .f32) : IVec S128x1600 1 × IVec S64 1 × IVec S64 1 × IVec S1 1 × IVec S1 1 × IVec S1000 1 × IVec S1000 1 × IVec S128x1 1 × IVec S128x128x128 1 :=
  let main_v68 : FVec F S128x64x5x5 .f32 := broadcastInDim S128x64x5x5 ![] bcast_S_S128x64x5x5 main_cst_1
  let main_v69 : FVec F S128x64x5x5 .f32 := maximumf main_v67 main_v68
  let main_cst_2 : FVec F S_ .f32 := constant S_ .f32 0xFF800000#32
  let main_v70 : FVec F S128x64x7x7 .f32 := fn_pad_0 (F := F) main_v69 main_cst_2
  let main_v71 : FVec F S128x64x3x3 .f32 := (Host.slice S128x64x3x3 ![0, 0, 0, 0] ![1, 1, 2, 2] · slicesBy_S128x64x7x7_S128x64x3x3_0s1_0s1_0s2_0s2) main_v70
  let main_v72 : FVec F S128x64x3x3 .f32 := (Host.slice S128x64x3x3 ![0, 0, 0, 1] ![1, 1, 2, 2] · slicesBy_S128x64x7x7_S128x64x3x3_0s1_0s1_0s2_1s2) main_v70
  let main_v73 : FVec F S128x64x3x3 .f32 := maximumf main_v71 main_v72
  let main_v74 : FVec F S128x64x3x3 .f32 := (Host.slice S128x64x3x3 ![0, 0, 1, 0] ![1, 1, 2, 2] · slicesBy_S128x64x7x7_S128x64x3x3_0s1_0s1_1s2_0s2) main_v70
  let main_v75 : FVec F S128x64x3x3 .f32 := (Host.slice S128x64x3x3 ![0, 0, 1, 1] ![1, 1, 2, 2] · slicesBy_S128x64x7x7_S128x64x3x3_0s1_0s1_1s2_1s2) main_v70
  let main_v76 : FVec F S128x64x3x3 .f32 := maximumf main_v74 main_v75
  let main_v77 : FVec F S128x64x3x3 .f32 := maximumf main_v73 main_v76
  let main_c_3 : IVec S_ 32 := constantI S_ 32 0#32
  let main_v78 : FVec F S128x64x5x5 .f32 := fn_pad_1 (F := F) main_v77 main_c_3
  let main_cst_4 : FVec F S_ .f32 := constant S_ .f32 0x00000000#32
  let main_v79 : FVec F S128x1x3x3 .f32 := broadcastInDim S128x1x3x3 ![] bcast_S_S128x1x3x3 main_cst_4
  let main_v80 : FVec F S128x64x3x3 .f32 := (extractStridedSlice S128x64x3x3 ![0, 0, 0, 0] · slices_S128x64x5x5_S128x64x3x3_0_0_0_0) main_v78
  let main_v81 : FVec F S1x64x1x1 .f32 := (extractStridedSlice S1x64x1x1 ![0, 0, 0, 0] · slices_S1x64x3x3_S1x64x1x1_0_0_0_0) main_arg5
  let main_v82 : FVec F S1x64 .f32 := shapeCast S1x64 main_v81 shapeCasts_S1x64x1x1_S1x64
  let main_v83 : FVec F S1x128x3x3 .f32 := (fun l r => Host.dotGeneral dot_S1x64_S128x64x3x3_S1x128x3x3_1_1_0_023_n_n none l r) main_v82 main_v80
  let main_v84 : FVec F S128x1x3x3 .f32 := (transpose S128x1x3x3 [1, 0, 2, 3] · transposes_S1x128x3x3_S128x1x3x3_1_0_2_3) main_v83
  let main_v85 : FVec F S128x1x3x3 .f32 := addf main_v79 main_v84
  let main_v86 : FVec F S128x64x3x3 .f32 := (extractStridedSlice S128x64x3x3 ![0, 0, 0, 1] · slices_S128x64x5x5_S128x64x3x3_0_0_0_1) main_v78
  let main_v87 : FVec F S1x64x1x1 .f32 := (extractStridedSlice S1x64x1x1 ![0, 0, 0, 1] · slices_S1x64x3x3_S1x64x1x1_0_0_0_1) main_arg5
  let main_v88 : FVec F S1x64 .f32 := shapeCast S1x64 main_v87 shapeCasts_S1x64x1x1_S1x64
  fn_part4 (F := F) main_arg0 main_arg2 main_arg3 main_arg5 main_arg6 main_arg7 main_arg8 main_arg9 main_arg10 main_arg11 main_arg12 main_arg14 main_arg15 main_v78 main_v85 main_v86 main_v88

def fn_part2 {F : FTy → Type} [FloatOps F] (main_arg0 : FVec F S128x1600 .f32) (main_arg1 : FVec F S64x64x3x3 .f32) (main_arg2 : FVec F S64 .f32) (main_arg3 : FVec F S64 .f32) (main_arg4 : FVec F S64 .f32) (main_arg5 : FVec F S1x64x3x3 .f32) (main_arg6 : FVec F S1 .f32) (main_arg7 : FVec F S1 .f32) (main_arg8 : FVec F S1 .f32) (main_arg9 : FVec F S8x4 .f32) (main_arg10 : FVec F S8 .f32) (main_arg11 : FVec F S1x8 .f32) (main_arg12 : FVec F S1 .f32) (main_arg14 : FVec F S1000 .f32) (main_arg15 : FVec F S1000 .f32) (main_v1 : FVec F S128x64x7x7 .f32) (main_v44 : FVec F S128x64x5x5 .f32) (main_v45 : FVec F S128x64x5x5 .f32) : IVec S128x1600 1 × IVec S64 1 × IVec S64 1 × IVec S1 1 × IVec S1 1 × IVec S1000 1 × IVec S1000 1 × IVec S128x1 1 × IVec S128x128x128 1 :=
  let main_v46 : FVec F S64x64x1x1 .f32 := (extractStridedSlice S64x64x1x1 ![0, 0, 2, 1] · slices_S64x64x3x3_S64x64x1x1_0_0_2_1) main_arg1
  let main_v47 : FVec F S64x64 .f32 := shapeCast S64x64 main_v46 shapeCasts_S64x64x1x1_S64x64
  let main_v48 : FVec F S64x128x5x5 .f32 := (fun l r => Host.dotGeneral dot_S64x64_S128x64x5x5_S64x128x5x5_1_1_0_023_n_n none l r) main_v47 main_v45
  let main_v49 : FVec F S128x64x5x5 .f32 := (transpose S128x64x5x5 [1, 0, 2, 3] · transposes_S64x128x5x5_S128x64x5x5_1_0_2_3) main_v48
  let main_v50 : FVec F S128x64x5x5 .f32 := addf main_v44 main_v49
  let main_v51 : FVec F S128x64x5x5 .f32 := (extractStridedSlice S128x64x5x5 ![0, 0, 2, 2] · slices_S128x64x7x7_S128x64x5x5_0_0_2_2) main_v1
  let main_v52 : FVec F S64x64x1x1 .f32 := (extractStridedSlice S64x64x1x1 ![0, 0, 2, 2] · slices_S64x64x3x3_S64x64x1x1_0_0_2_2) main_arg1
  let main_v53 : FVec F S64x64 .f32 := shapeCast S64x64 main_v52 shapeCasts_S64x64x1x1_S64x64
  let main_v54 : FVec F S64x128x5x5 .f32 := (fun l r => Host.dotGeneral dot_S64x64_S128x64x5x5_S64x128x5x5_1_1_0_023_n_n none l r) main_v53 main_v51
  let main_v55 : FVec F S128x64x5x5 .f32 := (transpose S128x64x5x5 [1, 0, 2, 3] · transposes_S64x128x5x5_S128x64x5x5_1_0_2_3) main_v54
  let main_v56 : FVec F S128x64x5x5 .f32 := addf main_v50 main_v55
  let main_v57 : FVec F S1x64x1x1 .f32 := broadcastInDim S1x64x1x1 ![1] bcast_S64_S1x64x1x1_1 main_arg2
  let main_v58 : FVec F S128x64x5x5 .f32 := broadcastInDim S128x64x5x5 ![0, 1, 2, 3] bcast_S1x64x1x1_S128x64x5x5_0_1_2_3 main_v57
  let main_v59 : FVec F S128x64x5x5 .f32 := addf main_v56 main_v58
  let main_v60 : FVec F S1x64x1x1 .f32 := broadcastInDim S1x64x1x1 ![1] bcast_S64_S1x64x1x1_1 main_arg3
  let main_v61 : FVec F S1x64x1x1 .f32 := broadcastInDim S1x64x1x1 ![1] bcast_S64_S1x64x1x1_1 main_arg4
  let main_cst_0 : FVec F S_ .f32 := constant S_ .f32 0x3F7FFFAC#32
  let main_v62 : FVec F S128x64x5x5 .f32 := broadcastInDim S128x64x5x5 ![] bcast_S_S128x64x5x5 main_cst_0
  let main_v63 : FVec F S128x64x5x5 .f32 := mulf main_v59 main_v62
  let main_v64 : FVec F S128x64x5x5 .f32 := broadcastInDim S128x64x5x5 ![0, 1, 2, 3] bcast_S1x64x1x1_S128x64x5x5_0_1_2_3 main_v60
  let main_v65 : FVec F S128x64x5x5 .f32 := mulf main_v63 main_v64
  let main_v66 : FVec F S128x64x5x5 .f32 := broadcastInDim S128x64x5x5 ![0, 1, 2, 3] bcast_S1x64x1x1_S128x64x5x5_0_1_2_3 main_v61
  let main_v67 : FVec F S128x64x5x5 .f32 := addf main_v65 main_v66
  let main_cst_1 : FVec F S_ .f32 := constant S_ .f32 0x00000000#32
  fn_part3 (F := F) main_arg0 main_arg2 main_arg3 main_arg5 main_arg6 main_arg7 main_arg8 main_arg9 main_arg10 main_arg11 main_arg12 main_arg14 main_arg15 main_v67 main_cst_1

def fn_part1 {F : FTy → Type} [FloatOps F] (main_arg0 : FVec F S128x1600 .f32) (main_arg1 : FVec F S64x64x3x3 .f32) (main_arg2 : FVec F S64 .f32) (main_arg3 : FVec F S64 .f32) (main_arg4 : FVec F S64 .f32) (main_arg5 : FVec F S1x64x3x3 .f32) (main_arg6 : FVec F S1 .f32) (main_arg7 : FVec F S1 .f32) (main_arg8 : FVec F S1 .f32) (main_arg9 : FVec F S8x4 .f32) (main_arg10 : FVec F S8 .f32) (main_arg11 : FVec F S1x8 .f32) (main_arg12 : FVec F S1 .f32) (main_arg14 : FVec F S1000 .f32) (main_arg15 : FVec F S1000 .f32) (main_v1 : FVec F S128x64x7x7 .f32) (main_v20 : FVec F S128x64x5x5 .f32) (main_v21 : FVec F S128x64x5x5 .f32) : IVec S128x1600 1 × IVec S64 1 × IVec S64 1 × IVec S1 1 × IVec S1 1 × IVec S1000 1 × IVec S1000 1 × IVec S128x1 1 × IVec S128x128x128 1 :=
  let main_v22 : FVec F S64x64x1x1 .f32 := (extractStridedSlice S64x64x1x1 ![0, 0, 1, 0] · slices_S64x64x3x3_S64x64x1x1_0_0_1_0) main_arg1
  let main_v23 : FVec F S64x64 .f32 := shapeCast S64x64 main_v22 shapeCasts_S64x64x1x1_S64x64
  let main_v24 : FVec F S64x128x5x5 .f32 := (fun l r => Host.dotGeneral dot_S64x64_S128x64x5x5_S64x128x5x5_1_1_0_023_n_n none l r) main_v23 main_v21
  let main_v25 : FVec F S128x64x5x5 .f32 := (transpose S128x64x5x5 [1, 0, 2, 3] · transposes_S64x128x5x5_S128x64x5x5_1_0_2_3) main_v24
  let main_v26 : FVec F S128x64x5x5 .f32 := addf main_v20 main_v25
  let main_v27 : FVec F S128x64x5x5 .f32 := (extractStridedSlice S128x64x5x5 ![0, 0, 1, 1] · slices_S128x64x7x7_S128x64x5x5_0_0_1_1) main_v1
  let main_v28 : FVec F S64x64x1x1 .f32 := (extractStridedSlice S64x64x1x1 ![0, 0, 1, 1] · slices_S64x64x3x3_S64x64x1x1_0_0_1_1) main_arg1
  let main_v29 : FVec F S64x64 .f32 := shapeCast S64x64 main_v28 shapeCasts_S64x64x1x1_S64x64
  let main_v30 : FVec F S64x128x5x5 .f32 := (fun l r => Host.dotGeneral dot_S64x64_S128x64x5x5_S64x128x5x5_1_1_0_023_n_n none l r) main_v29 main_v27
  let main_v31 : FVec F S128x64x5x5 .f32 := (transpose S128x64x5x5 [1, 0, 2, 3] · transposes_S64x128x5x5_S128x64x5x5_1_0_2_3) main_v30
  let main_v32 : FVec F S128x64x5x5 .f32 := addf main_v26 main_v31
  let main_v33 : FVec F S128x64x5x5 .f32 := (extractStridedSlice S128x64x5x5 ![0, 0, 1, 2] · slices_S128x64x7x7_S128x64x5x5_0_0_1_2) main_v1
  let main_v34 : FVec F S64x64x1x1 .f32 := (extractStridedSlice S64x64x1x1 ![0, 0, 1, 2] · slices_S64x64x3x3_S64x64x1x1_0_0_1_2) main_arg1
  let main_v35 : FVec F S64x64 .f32 := shapeCast S64x64 main_v34 shapeCasts_S64x64x1x1_S64x64
  let main_v36 : FVec F S64x128x5x5 .f32 := (fun l r => Host.dotGeneral dot_S64x64_S128x64x5x5_S64x128x5x5_1_1_0_023_n_n none l r) main_v35 main_v33
  let main_v37 : FVec F S128x64x5x5 .f32 := (transpose S128x64x5x5 [1, 0, 2, 3] · transposes_S64x128x5x5_S128x64x5x5_1_0_2_3) main_v36
  let main_v38 : FVec F S128x64x5x5 .f32 := addf main_v32 main_v37
  let main_v39 : FVec F S128x64x5x5 .f32 := (extractStridedSlice S128x64x5x5 ![0, 0, 2, 0] · slices_S128x64x7x7_S128x64x5x5_0_0_2_0) main_v1
  let main_v40 : FVec F S64x64x1x1 .f32 := (extractStridedSlice S64x64x1x1 ![0, 0, 2, 0] · slices_S64x64x3x3_S64x64x1x1_0_0_2_0) main_arg1
  let main_v41 : FVec F S64x64 .f32 := shapeCast S64x64 main_v40 shapeCasts_S64x64x1x1_S64x64
  let main_v42 : FVec F S64x128x5x5 .f32 := (fun l r => Host.dotGeneral dot_S64x64_S128x64x5x5_S64x128x5x5_1_1_0_023_n_n none l r) main_v41 main_v39
  let main_v43 : FVec F S128x64x5x5 .f32 := (transpose S128x64x5x5 [1, 0, 2, 3] · transposes_S64x128x5x5_S128x64x5x5_1_0_2_3) main_v42
  let main_v44 : FVec F S128x64x5x5 .f32 := addf main_v38 main_v43
  let main_v45 : FVec F S128x64x5x5 .f32 := (extractStridedSlice S128x64x5x5 ![0, 0, 2, 1] · slices_S128x64x7x7_S128x64x5x5_0_0_2_1) main_v1
  fn_part2 (F := F) main_arg0 main_arg1 main_arg2 main_arg3 main_arg4 main_arg5 main_arg6 main_arg7 main_arg8 main_arg9 main_arg10 main_arg11 main_arg12 main_arg14 main_arg15 main_v1 main_v44 main_v45

def fn {F : FTy → Type} [FloatOps F] (main_arg0 : FVec F S128x1600 .f32) (main_arg1 : FVec F S64x64x3x3 .f32) (main_arg2 : FVec F S64 .f32) (main_arg3 : FVec F S64 .f32) (main_arg4 : FVec F S64 .f32) (main_arg5 : FVec F S1x64x3x3 .f32) (main_arg6 : FVec F S1 .f32) (main_arg7 : FVec F S1 .f32) (main_arg8 : FVec F S1 .f32) (main_arg9 : FVec F S8x4 .f32) (main_arg10 : FVec F S8 .f32) (main_arg11 : FVec F S1x8 .f32) (main_arg12 : FVec F S1 .f32) (main_arg13 : FVec F S1600x1000 .f32) (main_arg14 : FVec F S1000 .f32) (main_arg15 : FVec F S1000 .f32) (main_arg16 : FVec F S1000 .f32) (main_arg17 : FVec F S1 .f32) (main_arg18 : FVec F S1 .f32) (main_arg19 : FVec F S1 .f32) : IVec S128x1600 1 × IVec S64 1 × IVec S64 1 × IVec S1 1 × IVec S1 1 × IVec S1000 1 × IVec S1000 1 × IVec S128x1 1 × IVec S128x128x128 1 :=
  let main_v0 : FVec F S128x64x5x5 .f32 := shapeCast S128x64x5x5 main_arg0 shapeCasts_S128x1600_S128x64x5x5
  let main_c : IVec S_ 32 := constantI S_ 32 0#32
  let main_v1 : FVec F S128x64x7x7 .f32 := fn_pad (F := F) main_v0 main_c
  let main_cst : FVec F S_ .f32 := constant S_ .f32 0x00000000#32
  let main_v2 : FVec F S128x64x5x5 .f32 := broadcastInDim S128x64x5x5 ![] bcast_S_S128x64x5x5 main_cst
  let main_v3 : FVec F S128x64x5x5 .f32 := (extractStridedSlice S128x64x5x5 ![0, 0, 0, 0] · slices_S128x64x7x7_S128x64x5x5_0_0_0_0) main_v1
  let main_v4 : FVec F S64x64x1x1 .f32 := (extractStridedSlice S64x64x1x1 ![0, 0, 0, 0] · slices_S64x64x3x3_S64x64x1x1_0_0_0_0) main_arg1
  let main_v5 : FVec F S64x64 .f32 := shapeCast S64x64 main_v4 shapeCasts_S64x64x1x1_S64x64
  let main_v6 : FVec F S64x128x5x5 .f32 := (fun l r => Host.dotGeneral dot_S64x64_S128x64x5x5_S64x128x5x5_1_1_0_023_n_n none l r) main_v5 main_v3
  let main_v7 : FVec F S128x64x5x5 .f32 := (transpose S128x64x5x5 [1, 0, 2, 3] · transposes_S64x128x5x5_S128x64x5x5_1_0_2_3) main_v6
  let main_v8 : FVec F S128x64x5x5 .f32 := addf main_v2 main_v7
  let main_v9 : FVec F S128x64x5x5 .f32 := (extractStridedSlice S128x64x5x5 ![0, 0, 0, 1] · slices_S128x64x7x7_S128x64x5x5_0_0_0_1) main_v1
  let main_v10 : FVec F S64x64x1x1 .f32 := (extractStridedSlice S64x64x1x1 ![0, 0, 0, 1] · slices_S64x64x3x3_S64x64x1x1_0_0_0_1) main_arg1
  let main_v11 : FVec F S64x64 .f32 := shapeCast S64x64 main_v10 shapeCasts_S64x64x1x1_S64x64
  let main_v12 : FVec F S64x128x5x5 .f32 := (fun l r => Host.dotGeneral dot_S64x64_S128x64x5x5_S64x128x5x5_1_1_0_023_n_n none l r) main_v11 main_v9
  let main_v13 : FVec F S128x64x5x5 .f32 := (transpose S128x64x5x5 [1, 0, 2, 3] · transposes_S64x128x5x5_S128x64x5x5_1_0_2_3) main_v12
  let main_v14 : FVec F S128x64x5x5 .f32 := addf main_v8 main_v13
  let main_v15 : FVec F S128x64x5x5 .f32 := (extractStridedSlice S128x64x5x5 ![0, 0, 0, 2] · slices_S128x64x7x7_S128x64x5x5_0_0_0_2) main_v1
  let main_v16 : FVec F S64x64x1x1 .f32 := (extractStridedSlice S64x64x1x1 ![0, 0, 0, 2] · slices_S64x64x3x3_S64x64x1x1_0_0_0_2) main_arg1
  let main_v17 : FVec F S64x64 .f32 := shapeCast S64x64 main_v16 shapeCasts_S64x64x1x1_S64x64
  let main_v18 : FVec F S64x128x5x5 .f32 := (fun l r => Host.dotGeneral dot_S64x64_S128x64x5x5_S64x128x5x5_1_1_0_023_n_n none l r) main_v17 main_v15
  let main_v19 : FVec F S128x64x5x5 .f32 := (transpose S128x64x5x5 [1, 0, 2, 3] · transposes_S64x128x5x5_S128x64x5x5_1_0_2_3) main_v18
  let main_v20 : FVec F S128x64x5x5 .f32 := addf main_v14 main_v19
  let main_v21 : FVec F S128x64x5x5 .f32 := (extractStridedSlice S128x64x5x5 ![0, 0, 1, 0] · slices_S128x64x7x7_S128x64x5x5_0_0_1_0) main_v1
  fn_part1 (F := F) main_arg0 main_arg1 main_arg2 main_arg3 main_arg4 main_arg5 main_arg6 main_arg7 main_arg8 main_arg9 main_arg10 main_arg11 main_arg12 main_arg14 main_arg15 main_v1 main_v20 main_v21
-- ==== Kernel.lean ====
abbrev S128x1600 : Shape := ⟨2, ![128, 1600]⟩
abbrev S64x64x3x3 : Shape := ⟨4, ![64, 64, 3, 3]⟩
abbrev S64 : Shape := ⟨1, ![64]⟩
abbrev S1x64x3x3 : Shape := ⟨4, ![1, 64, 3, 3]⟩
abbrev S1 : Shape := ⟨1, ![1]⟩
abbrev S8x4 : Shape := ⟨2, ![8, 4]⟩
abbrev S8 : Shape := ⟨1, ![8]⟩
abbrev S1x8 : Shape := ⟨2, ![1, 8]⟩
abbrev S1600x1000 : Shape := ⟨2, ![1600, 1000]⟩
abbrev S1000 : Shape := ⟨1, ![1000]⟩
abbrev S128x64x25 : Shape := ⟨3, ![128, 64, 25]⟩
abbrev S128x25x64 : Shape := ⟨3, ![128, 25, 64]⟩
abbrev S_ : Shape := ⟨0, ![]⟩
abbrev S1392 : Shape := ⟨1, ![1392]⟩
abbrev S600 : Shape := ⟨1, ![600]⟩
abbrev S4800 : Shape := ⟨1, ![4800]⟩
abbrev S3x1600 : Shape := ⟨2, ![3, 1600]⟩
abbrev S259x1600 : Shape := ⟨2, ![259, 1600]⟩
abbrev S3 : Shape := ⟨1, ![3]⟩
abbrev S2 : Shape := ⟨1, ![2]⟩
abbrev S64x576 : Shape := ⟨2, ![64, 576]⟩
abbrev S64x9 : Shape := ⟨2, ![64, 9]⟩
abbrev S128x1000 : Shape := ⟨2, ![128, 1000]⟩
abbrev S576x576 : Shape := ⟨2, ![576, 576]⟩
abbrev S576x64 : Shape := ⟨2, ![576, 64]⟩
abbrev S128x64 : Shape := ⟨2, ![128, 64]⟩
abbrev S1x64 : Shape := ⟨2, ![1, 64]⟩
abbrev S64x64 : Shape := ⟨2, ![64, 64]⟩
abbrev S128x9 : Shape := ⟨2, ![128, 9]⟩
abbrev S128x1 : Shape := ⟨2, ![128, 1]⟩
abbrev S128x4 : Shape := ⟨2, ![128, 4]⟩
abbrev S128x8 : Shape := ⟨2, ![128, 8]⟩
abbrev S128 : Shape := ⟨1, ![128]⟩
abbrev S128x128 : Shape := ⟨2, ![128, 128]⟩
abbrev S1x128 : Shape := ⟨2, ![1, 128]⟩
abbrev S1x1000 : Shape := ⟨2, ![1, 1000]⟩

abbrev nBuf : Space → Nat
  | .hbm => 66
  | .vmem => 6
  | .smem => 1
  | _ => 0

abbrev bufTy : (tb : Table) → Fin (tcTables nBuf tb) → BufTy
  | .hbm, ⟨0, _⟩ => ⟨S128x1600, .f32⟩
  | .hbm, ⟨1, _⟩ => ⟨S64x64x3x3, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S1x64x3x3, .f32⟩
  | .hbm, ⟨6, _⟩ => ⟨S1, .f32⟩
  | .hbm, ⟨7, _⟩ => ⟨S1, .f32⟩
  | .hbm, ⟨8, _⟩ => ⟨S1, .f32⟩
  | .hbm, ⟨9, _⟩ => ⟨S8x4, .f32⟩
  | .hbm, ⟨10, _⟩ => ⟨S8, .f32⟩
  | .hbm, ⟨11, _⟩ => ⟨S1x8, .f32⟩
  | .hbm, ⟨12, _⟩ => ⟨S1, .f32⟩
  | .hbm, ⟨13, _⟩ => ⟨S1600x1000, .f32⟩
  | .hbm, ⟨14, _⟩ => ⟨S1000, .f32⟩
  | .hbm, ⟨15, _⟩ => ⟨S1000, .f32⟩
  | .hbm, ⟨16, _⟩ => ⟨S1000, .f32⟩
  | .hbm, ⟨17, _⟩ => ⟨S1, .f32⟩
  | .hbm, ⟨18, _⟩ => ⟨S1, .f32⟩
  | .hbm, ⟨19, _⟩ => ⟨S1, .f32⟩
  | .hbm, ⟨20, _⟩ => ⟨S128x64x25, .f32⟩
  | .hbm, ⟨21, _⟩ => ⟨S128x25x64, .f32⟩
  | .hbm, ⟨22, _⟩ => ⟨S128x1600, .f32⟩
  | .hbm, ⟨23, _⟩ => ⟨S_, .f32⟩
  | .hbm, ⟨24, _⟩ => ⟨S1000, .f32⟩
  | .hbm, ⟨25, _⟩ => ⟨S1000, .f32⟩
  | .hbm, ⟨26, _⟩ => ⟨S8, .f32⟩
  | .hbm, ⟨27, _⟩ => ⟨S_, .f32⟩
  | .hbm, ⟨28, _⟩ => ⟨S1392, .f32⟩
  | .hbm, ⟨29, _⟩ => ⟨S_, .f32⟩
  | .hbm, ⟨30, _⟩ => ⟨S600, .f32⟩
  | .hbm, ⟨31, _⟩ => ⟨S1000, .f32⟩
  | .hbm, ⟨32, _⟩ => ⟨S1000, .f32⟩
  | .hbm, ⟨33, _⟩ => ⟨S_, .f32⟩
  | .hbm, ⟨34, _⟩ => ⟨S600, .f32⟩
  | .hbm, ⟨35, _⟩ => ⟨S4800, .f32⟩
  | .hbm, ⟨36, _⟩ => ⟨S3x1600, .f32⟩
  | .hbm, ⟨37, _⟩ => ⟨S259x1600, .f32⟩
  | .hbm, ⟨38, _⟩ => ⟨S_, .f32⟩
  | .hbm, ⟨39, _⟩ => ⟨S1, .f32⟩
  | .hbm, ⟨40, _⟩ => ⟨S1, .f32⟩
  | .hbm, ⟨41, _⟩ => ⟨S3, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1, .f32⟩
  | .hbm, ⟨47, _⟩ => ⟨S3, .f32⟩
  | .hbm, ⟨48, _⟩ => ⟨S3, .f32⟩
  | .hbm, ⟨49, _⟩ => ⟨S3, .f32⟩
  | .hbm, ⟨50, _⟩ => ⟨S_, .f32⟩
  | .hbm, ⟨51, _⟩ => ⟨S_, .f32⟩
  | .hbm, ⟨52, _⟩ => ⟨S1, .f32⟩
  | .hbm, ⟨53, _⟩ => ⟨S3, .f32⟩
  | .hbm, ⟨54, _⟩ => ⟨S3, .f32⟩
  | .hbm, ⟨55, _⟩ => ⟨S1, .f32⟩
  | .hbm, ⟨56, _⟩ => ⟨S1, .f32⟩
  | .hbm, ⟨57, _⟩ => ⟨S_, .f32⟩
  | .hbm, ⟨58, _⟩ => ⟨S1, .f32⟩
  | .hbm, ⟨59, _⟩ => ⟨S1, .f32⟩
  | .hbm, ⟨60, _⟩ => ⟨S_, .f32⟩
  | .hbm, ⟨61, _⟩ => ⟨S2, .f32⟩
  | .hbm, ⟨62, _⟩ => ⟨S8, .f32⟩
  | .hbm, ⟨63, _⟩ => ⟨S64x576, .f32⟩
  | .hbm, ⟨64, _⟩ => ⟨S64x9, .f32⟩
  | .hbm, ⟨65, _⟩ => ⟨S128x1000, .f32⟩
  | .local _ .vmem, ⟨0, _⟩ => ⟨S259x1600, .f32⟩
  | .local _ .vmem, ⟨1, _⟩ => ⟨S1600x1000, .f32⟩
  | .local _ .vmem, ⟨2, _⟩ => ⟨S64x576, .f32⟩
  | .local _ .vmem, ⟨3, _⟩ => ⟨S64x9, .f32⟩
  | .local _ .vmem, ⟨4, _⟩ => ⟨S8x4, .f32⟩
  | .local _ .vmem, ⟨5, _⟩ => ⟨S128x1000, .f32⟩
  | .local _ .smem, ⟨0, _⟩ => ⟨S8, .f32⟩
  | _, _ => ⟨S128x1600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_cst_0 : Ref sig .tc := ⟨.hbm, 27, rfl⟩
abbrev main_v6 : Ref sig .tc := ⟨.hbm, 28, rfl⟩
abbrev main_cst_1 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst_2 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_3 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_4 : Ref sig .tc := ⟨.hbm, 42, rfl⟩
abbrev main_v17 : Ref sig .tc := ⟨.hbm, 43, rfl⟩
abbrev main_cst_5 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_6 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_7 : Ref sig .tc := ⟨.hbm, 57, rfl⟩
abbrev main_v29 : Ref sig .tc := ⟨.hbm, 58, rfl⟩
abbrev main_v30 : Ref sig .tc := ⟨.hbm, 59, rfl⟩
abbrev main_cst_8 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg6_0 : Ref sig .tc := ⟨.vmem, 5, rfl⟩
abbrev cc0_stg5_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32_275 : BitVec 32 := 0#32
  let c25_i32 : BitVec 32 := 25#32
  let v969 : BitVec 32 := Scalar.addi c0_i32_275 c25_i32
  let c1_i32_276 : BitVec 32 := 1#32
  ⟨c0_i32_275, v969, c1_i32_276⟩
abbrev stage0_0 : Fin 1 → Memref sig .tc .vmem S259x1600 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1600x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x9 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S128x1600 : Shape := ⟨2, ![128, 1600]⟩
abbrev S64x64x3x3 : Shape := ⟨4, ![64, 64, 3, 3]⟩
abbrev S64 : Shape := ⟨1, ![64]⟩
abbrev S1x64x3x3 : Shape := ⟨4, ![1, 64, 3, 3]⟩
abbrev S1 : Shape := ⟨1, ![1]⟩
abbrev S8x4 : Shape := ⟨2, ![8, 4]⟩
abbrev S8 : Shape := ⟨1, ![8]⟩
abbrev S1x8 : Shape := ⟨2, ![1, 8]⟩
abbrev S1600x1000 : Shape := ⟨2, ![1600, 1000]⟩
abbrev S1000 : Shape := ⟨1, ![1000]⟩
abbrev S128x64x5x5 : Shape := ⟨4, ![128, 64, 5, 5]⟩
abbrev S_ : Shape := ⟨0, ![]⟩
abbrev S128x64x7x7 : Shape := ⟨4, ![128, 64, 7, 7]⟩
abbrev S64x64x1x1 : Shape := ⟨4, ![64, 64, 1, 1]⟩
abbrev S64x64 : Shape := ⟨2, ![64, 64]⟩
abbrev S64x128x5x5 : Shape := ⟨4, ![64, 128, 5, 5]⟩
abbrev S1x64x1x1 : Shape := ⟨4, ![1, 64, 1, 1]⟩
abbrev S128x64x3x3 : Shape := ⟨4, ![128, 64, 3, 3]⟩
abbrev S128x1x3x3 : Shape := ⟨4, ![128, 1, 3, 3]⟩
abbrev S1x64 : Shape := ⟨2, ![1, 64]⟩
abbrev S1x128x3x3 : Shape := ⟨4, ![1, 128, 3, 3]⟩
abbrev S1x1x1x1 : Shape := ⟨4, ![1, 1, 1, 1]⟩
abbrev S128x1x5x5 : Shape := ⟨4, ![128, 1, 5, 5]⟩
abbrev S128x1x2x2 : Shape := ⟨4, ![128, 1, 2, 2]⟩
abbrev S128x4 : Shape := ⟨2, ![128, 4]⟩
abbrev S4x8 : Shape := ⟨2, ![4, 8]⟩
abbrev S128x8 : Shape := ⟨2, ![128, 8]⟩
abbrev S8x1 : Shape := ⟨2, ![8, 1]⟩
abbrev S128x1 : Shape := ⟨2, ![128, 1]⟩
abbrev S1x1 : Shape := ⟨2, ![1, 1]⟩
abbrev S128x1x1600 : Shape := ⟨3, ![128, 1, 1600]⟩
abbrev S1x128x1600 : Shape := ⟨3, ![1, 128, 1600]⟩
abbrev S128x128x1600 : Shape := ⟨3, ![128, 128, 1600]⟩
abbrev S128x128 : Shape := ⟨2, ![128, 128]⟩
abbrev S128x26 : Shape := ⟨2, ![128, 26]⟩
abbrev S128 : Shape := ⟨1, ![128]⟩
abbrev S128x26x1 : Shape := ⟨3, ![128, 26, 1]⟩
abbrev S128x26x2 : Shape := ⟨3, ![128, 26, 2]⟩
abbrev S3 : Shape := ⟨1, ![3]⟩
abbrev S128x1000 : Shape := ⟨2, ![128, 1000]⟩
abbrev S1x1000 : Shape := ⟨2, ![1, 1000]⟩

abbrev nBuf : Space → Nat
  | .hbm => 341
  | .vmem => 0
  | .smem => 0
  | _ => 0

abbrev hbmTy0_0 (i : Nat) : BufTy := match i % 128 with
  | 0 => ⟨S128x1600, .f32⟩
  | 1 => ⟨S64x64x3x3, .f32⟩
  | 2 => ⟨S64, .f32⟩
  | 3 => ⟨S64, .f32⟩
  | 4 => ⟨S64, .f32⟩
  | 5 => ⟨S1x64x3x3, .f32⟩
  | 6 => ⟨S1, .f32⟩
  | 7 => ⟨S1, .f32⟩
  | 8 => ⟨S1, .f32⟩
  | 9 => ⟨S8x4, .f32⟩
  | 10 => ⟨S8, .f32⟩
  | 11 => ⟨S1x8, .f32⟩
  | 12 => ⟨S1, .f32⟩
  | 13 => ⟨S1600x1000, .f32⟩
  | 14 => ⟨S1000, .f32⟩
  | 15 => ⟨S1000, .f32⟩
  | 16 => ⟨S1000, .f32⟩
  | 17 => ⟨S1, .f32⟩
  | 18 => ⟨S1, .f32⟩
  | 19 => ⟨S1, .f32⟩
  | 20 => ⟨S128x64x5x5, .f32⟩
  | 21 => ⟨S_, .i32⟩
  | 22 => ⟨S_, .f32⟩
  | 23 => ⟨S128x64x7x7, .f32⟩
  | 24 => ⟨S_, .f32⟩
  | 25 => ⟨S128x64x5x5, .f32⟩
  | 26 => ⟨S128x64x5x5, .f32⟩
  | 27 => ⟨S64x64x1x1, .f32⟩
  | 28 => ⟨S64x64, .f32⟩
  | 29 => ⟨S64x128x5x5, .f32⟩
  | 30 => ⟨S128x64x5x5, .f32⟩
  | 31 => ⟨S128x64x5x5, .f32⟩
  | 32 => ⟨S128x64x5x5, .f32⟩
  | 33 => ⟨S64x64x1x1, .f32⟩
  | 34 => ⟨S64x64, .f32⟩
  | 35 => ⟨S64x128x5x5, .f32⟩
  | 36 => ⟨S128x64x5x5, .f32⟩
  | 37 => ⟨S128x64x5x5, .f32⟩
  | 38 => ⟨S128x64x5x5, .f32⟩
  | 39 => ⟨S64x64x1x1, .f32⟩
  | 40 => ⟨S64x64, .f32⟩
  | 41 => ⟨S64x128x5x5, .f32⟩
  | 42 => ⟨S128x64x5x5, .f32⟩
  | 43 => ⟨S128x64x5x5, .f32⟩
  | 44 => ⟨S128x64x5x5, .f32⟩
  | 45 => ⟨S64x64x1x1, .f32⟩
  | 46 => ⟨S64x64, .f32⟩
  | 47 => ⟨S64x128x5x5, .f32⟩
  | 48 => ⟨S128x64x5x5, .f32⟩
  | 49 => ⟨S128x64x5x5, .f32⟩
  | 50 => ⟨S128x64x5x5, .f32⟩
  | 51 => ⟨S64x64x1x1, .f32⟩
  | 52 => ⟨S64x64, .f32⟩
  | 53 => ⟨S64x128x5x5, .f32⟩
  | 54 => ⟨S128x64x5x5, .f32⟩
  | 55 => ⟨S128x64x5x5, .f32⟩
  | 56 => ⟨S128x64x5x5, .f32⟩
  | 57 => ⟨S64x64x1x1, .f32⟩
  | 58 => ⟨S64x64, .f32⟩
  | 59 => ⟨S64x128x5x5, .f32⟩
  | 60 => ⟨S128x64x5x5, .f32⟩
  | 61 => ⟨S128x64x5x5, .f32⟩
  | 62 => ⟨S128x64x5x5, .f32⟩
  | 63 => ⟨S64x64x1x1, .f32⟩
  | 64 => ⟨S64x64, .f32⟩
  | 65 => ⟨S64x128x5x5, .f32⟩
  | 66 => ⟨S128x64x5x5, .f32⟩
  | 67 => ⟨S128x64x5x5, .f32⟩
  | 68 => ⟨S128x64x5x5, .f32⟩
  | 69 => ⟨S64x64x1x1, .f32⟩
  | 70 => ⟨S64x64, .f32⟩
  | 71 => ⟨S64x128x5x5, .f32⟩
  | 72 => ⟨S128x64x5x5, .f32⟩
  | 73 => ⟨S128x64x5x5, .f32⟩
  | 74 => ⟨S128x64x5x5, .f32⟩
  | 75 => ⟨S64x64x1x1, .f32⟩
  | 76 => ⟨S64x64, .f32⟩
  | 77 => ⟨S64x128x5x5, .f32⟩
  | 78 => ⟨S128x64x5x5, .f32⟩
  | 79 => ⟨S128x64x5x5, .f32⟩
  | 80 => ⟨S1x64x1x1, .f32⟩
  | 81 => ⟨S128x64x5x5, .f32⟩
  | 82 => ⟨S128x64x5x5, .f32⟩
  | 83 => ⟨S1x64x1x1, .f32⟩
  | 84 => ⟨S1x64x1x1, .f32⟩
  | 85 => ⟨S_, .f32⟩
  | 86 => ⟨S128x64x5x5, .f32⟩
  | 87 => ⟨S128x64x5x5, .f32⟩
  | 88 => ⟨S128x64x5x5, .f32⟩
  | 89 => ⟨S128x64x5x5, .f32⟩
  | 90 => ⟨S128x64x5x5, .f32⟩
  | 91 => ⟨S128x64x5x5, .f32⟩
  | 92 => ⟨S_, .f32⟩
  | 93 => ⟨S128x64x5x5, .f32⟩
  | 94 => ⟨S128x64x5x5, .f32⟩
  | 95 => ⟨S_, .f32⟩
  | 96 => ⟨S_, .f32⟩
  | 97 => ⟨S128x64x7x7, .f32⟩
  | 98 => ⟨S128x64x3x3, .f32⟩
  | 99 => ⟨S128x64x3x3, .f32⟩
  | 100 => ⟨S128x64x3x3, .f32⟩
  | 101 => ⟨S128x64x3x3, .f32⟩
  | 102 => ⟨S128x64x3x3, .f32⟩
  | 103 => ⟨S128x64x3x3, .f32⟩
  | 104 => ⟨S128x64x3x3, .f32⟩
  | 105 => ⟨S_, .i32⟩
  | 106 => ⟨S_, .f32⟩
  | 107 => ⟨S128x64x5x5, .f32⟩
  | 108 => ⟨S_, .f32⟩
  | 109 => ⟨S128x1x3x3, .f32⟩
  | 110 => ⟨S128x64x3x3, .f32⟩
  | 111 => ⟨S1x64x1x1, .f32⟩
  | 112 => ⟨S1x64, .f32⟩
  | 113 => ⟨S1x128x3x3, .f32⟩
  | 114 => ⟨S128x1x3x3, .f32⟩
  | 115 => ⟨S128x1x3x3, .f32⟩
  | 116 => ⟨S128x64x3x3, .f32⟩
  | 117 => ⟨S1x64x1x1, .f32⟩
  | 118 => ⟨S1x64, .f32⟩
  | 119 => ⟨S1x128x3x3, .f32⟩
  | 120 => ⟨S128x1x3x3, .f32⟩
  | 121 => ⟨S128x1x3x3, .f32⟩
  | 122 => ⟨S128x64x3x3, .f32⟩
  | 123 => ⟨S1x64x1x1, .f32⟩
  | 124 => ⟨S1x64, .f32⟩
  | 125 => ⟨S1x128x3x3, .f32⟩
  | 126 => ⟨S128x1x3x3, .f32⟩
  | 127 => ⟨S128x1x3x3, .f32⟩
  | _ => ⟨S128x1600, .f32⟩

abbrev hbmTy0_1 (i : Nat) : BufTy := match i % 128 with
  | 0 => ⟨S128x64x3x3, .f32⟩
  | 1 => ⟨S1x64x1x1, .f32⟩
  | 2 => ⟨S1x64, .f32⟩
  | 3 => ⟨S1x128x3x3, .f32⟩
  | 4 => ⟨S128x1x3x3, .f32⟩
  | 5 => ⟨S128x1x3x3, .f32⟩
  | 6 => ⟨S128x64x3x3, .f32⟩
  | 7 => ⟨S1x64x1x1, .f32⟩
  | 8 => ⟨S1x64, .f32⟩
  | 9 => ⟨S1x128x3x3, .f32⟩
  | 10 => ⟨S128x1x3x3, .f32⟩
  | 11 => ⟨S128x1x3x3, .f32⟩
  | 12 => ⟨S128x64x3x3, .f32⟩
  | 13 => ⟨S1x64x1x1, .f32⟩
  | 14 => ⟨S1x64, .f32⟩
  | 15 => ⟨S1x128x3x3, .f32⟩
  | 16 => ⟨S128x1x3x3, .f32⟩
  | 17 => ⟨S128x1x3x3, .f32⟩
  | 18 => ⟨S128x64x3x3, .f32⟩
  | 19 => ⟨S1x64x1x1, .f32⟩
  | 20 => ⟨S1x64, .f32⟩
  | 21 => ⟨S1x128x3x3, .f32⟩
  | 22 => ⟨S128x1x3x3, .f32⟩
  | 23 => ⟨S128x1x3x3, .f32⟩
  | 24 => ⟨S128x64x3x3, .f32⟩
  | 25 => ⟨S1x64x1x1, .f32⟩
  | 26 => ⟨S1x64, .f32⟩
  | 27 => ⟨S1x128x3x3, .f32⟩
  | 28 => ⟨S128x1x3x3, .f32⟩
  | 29 => ⟨S128x1x3x3, .f32⟩
  | 30 => ⟨S128x64x3x3, .f32⟩
  | 31 => ⟨S1x64x1x1, .f32⟩
  | 32 => ⟨S1x64, .f32⟩
  | 33 => ⟨S1x128x3x3, .f32⟩
  | 34 => ⟨S128x1x3x3, .f32⟩
  | 35 => ⟨S128x1x3x3, .f32⟩
  | 36 => ⟨S1x1x1x1, .f32⟩
  | 37 => ⟨S128x1x3x3, .f32⟩
  | 38 => ⟨S128x1x3x3, .f32⟩
  | 39 => ⟨S1x1x1x1, .f32⟩
  | 40 => ⟨S1x1x1x1, .f32⟩
  | 41 => ⟨S_, .f32⟩
  | 42 => ⟨S128x1x3x3, .f32⟩
  | 43 => ⟨S128x1x3x3, .f32⟩
  | 44 => ⟨S128x1x3x3, .f32⟩
  | 45 => ⟨S128x1x3x3, .f32⟩
  | 46 => ⟨S128x1x3x3, .f32⟩
  | 47 => ⟨S128x1x3x3, .f32⟩
  | 48 => ⟨S_, .f32⟩
  | 49 => ⟨S128x1x3x3, .f32⟩
  | 50 => ⟨S128x1x3x3, .f32⟩
  | 51 => ⟨S_, .f32⟩
  | 52 => ⟨S_, .f32⟩
  | 53 => ⟨S128x1x5x5, .f32⟩
  | 54 => ⟨S128x1x2x2, .f32⟩
  | 55 => ⟨S128x1x2x2, .f32⟩
  | 56 => ⟨S128x1x2x2, .f32⟩
  | 57 => ⟨S128x1x2x2, .f32⟩
  | 58 => ⟨S128x1x2x2, .f32⟩
  | 59 => ⟨S128x1x2x2, .f32⟩
  | 60 => ⟨S128x1x2x2, .f32⟩
  | 61 => ⟨S128x4, .f32⟩
  | 62 => ⟨S4x8, .f32⟩
  | 63 => ⟨S128x8, .f32⟩
  | 64 => ⟨S1x8, .f32⟩
  | 65 => ⟨S128x8, .f32⟩
  | 66 => ⟨S128x8, .f32⟩
  | 67 => ⟨S_, .f32⟩
  | 68 => ⟨S128x8, .f32⟩
  | 69 => ⟨S128x8, .f32⟩
  | 70 => ⟨S8x1, .f32⟩
  | 71 => ⟨S128x1, .f32⟩
  | 72 => ⟨S1x1, .f32⟩
  | 73 => ⟨S128x1, .f32⟩
  | 74 => ⟨S128x1, .f32⟩
  | 75 => ⟨S_, .f32⟩
  | 76 => ⟨S128x1, .f32⟩
  | 77 => ⟨S128x1, .f32⟩
  | 78 => ⟨S128x1600, .f32⟩
  | 79 => ⟨S128x1600, .f32⟩
  | 80 => ⟨S128x1x1600, .f32⟩
  | 81 => ⟨S1x128x1600, .f32⟩
  | 82 => ⟨S128x128x1600, .f32⟩
  | 83 => ⟨S128x128x1600, .f32⟩
  | 84 => ⟨S128x128x1600, .f32⟩
  | 85 => ⟨S128x128x1600, .f32⟩
  | 86 => ⟨S_, .f32⟩
  | 87 => ⟨S128x128, .f32⟩
  | 88 => ⟨S128x128, .f32⟩
  | 89 => ⟨S128x128, .f32⟩
  | 90 => ⟨S128x26, .f32⟩
  | 91 => ⟨S128x26, .i32⟩
  | 92 => ⟨S_, .f32⟩
  | 93 => ⟨S128x128, .f32⟩
  | 94 => ⟨S128, .i32⟩
  | 95 => ⟨S128x1, .i32⟩
  | 96 => ⟨S_, .i32⟩
  | 97 => ⟨S128x1, .i32⟩
  | 98 => ⟨S128x1, .i1⟩
  | 99 => ⟨S_, .i32⟩
  | 100 => ⟨S128x1, .i32⟩
  | 101 => ⟨S128x1, .i32⟩
  | 102 => ⟨S128x1, .i32⟩
  | 103 => ⟨S_, .i32⟩
  | 104 => ⟨S128x26, .i32⟩
  | 105 => ⟨S128x26, .i1⟩
  | 106 => ⟨S_, .i32⟩
  | 107 => ⟨S128x26, .i32⟩
  | 108 => ⟨S128x26, .i32⟩
  | 109 => ⟨S128x26, .i32⟩
  | 110 => ⟨S128x26, .i32⟩
  | 111 => ⟨S128x26x1, .i32⟩
  | 112 => ⟨S128x26x1, .i32⟩
  | 113 => ⟨S128x26x2, .i32⟩
  | 114 => ⟨S_, .f32⟩
  | 115 => ⟨S128x26, .f32⟩
  | 116 => ⟨S128x128, .f32⟩
  | 117 => ⟨S128x128, .i32⟩
  | 118 => ⟨S128x128, .i32⟩
  | 119 => ⟨S_, .i32⟩
  | 120 => ⟨S128x128, .i32⟩
  | 121 => ⟨S128x128, .i32⟩
  | 122 => ⟨S128x128, .i1⟩
  | 123 => ⟨S_, .f32⟩
  | 124 => ⟨S_, .f32⟩
  | 125 => ⟨S128x128, .f32⟩
  | 126 => ⟨S128x128, .f32⟩
  | 127 => ⟨S128x128, .f32⟩
  | _ => ⟨S128x1600, .f32⟩

abbrev hbmTy0_2 (i : Nat) : BufTy := match i % 128 with
  | 0 => ⟨S128x128, .i32⟩
  | 1 => ⟨S128x128, .i32⟩
  | 2 => ⟨S_, .i32⟩
  | 3 => ⟨S128x128, .i32⟩
  | 4 => ⟨S128x128, .i32⟩
  | 5 => ⟨S128x128, .i1⟩
  | 6 => ⟨S128x128, .f32⟩
  | 7 => ⟨S128x128, .f32⟩
  | 8 => ⟨S_, .f32⟩
  | 9 => ⟨S128, .f32⟩
  | 10 => ⟨S_, .f32⟩
  | 11 => ⟨S128, .f32⟩
  | 12 => ⟨S128, .f32⟩
  | 13 => ⟨S128, .f32⟩
  | 14 => ⟨S_, .f32⟩
  | 15 => ⟨S128, .f32⟩
  | 16 => ⟨S128, .f32⟩
  | 17 => ⟨S_, .f32⟩
  | 18 => ⟨S128, .f32⟩
  | 19 => ⟨S128x128, .i32⟩
  | 20 => ⟨S128x128, .i32⟩
  | 21 => ⟨S_, .i32⟩
  | 22 => ⟨S128x128, .i32⟩
  | 23 => ⟨S128x128, .i32⟩
  | 24 => ⟨S128x128, .i1⟩
  | 25 => ⟨S128x1, .f32⟩
  | 26 => ⟨S_, .f32⟩
  | 27 => ⟨S128x128, .f32⟩
  | 28 => ⟨S128x128, .f32⟩
  | 29 => ⟨S128x128, .f32⟩
  | 30 => ⟨S128x128, .f32⟩
  | 31 => ⟨S128x128, .f32⟩
  | 32 => ⟨S3, .f32⟩
  | 33 => ⟨S_, .f32⟩
  | 34 => ⟨S_, .f32⟩
  | 35 => ⟨S_, .f32⟩
  | 36 => ⟨S_, .f32⟩
  | 37 => ⟨S1, .f32⟩
  | 38 => ⟨S3, .f32⟩
  | 39 => ⟨S3, .f32⟩
  | 40 => ⟨S3, .f32⟩
  | 41 => ⟨S_, .f32⟩
  | 42 => ⟨S_, .f32⟩
  | 43 => ⟨S1, .f32⟩
  | 44 => ⟨S3, .f32⟩
  | 45 => ⟨S3, .f32⟩
  | 46 => ⟨S1, .f32⟩
  | 47 => ⟨S_, .f32⟩
  | 48 => ⟨S128x128, .i32⟩
  | 49 => ⟨S128x128, .i32⟩
  | 50 => ⟨S_, .i32⟩
  | 51 => ⟨S128x128, .i32⟩
  | 52 => ⟨S128x128, .i32⟩
  | 53 => ⟨S128x128, .i1⟩
  | 54 => ⟨S128x128, .f32⟩
  | 55 => ⟨S128x128, .f32⟩
  | 56 => ⟨S128x128, .f32⟩
  | 57 => ⟨S1, .f32⟩
  | 58 => ⟨S_, .f32⟩
  | 59 => ⟨S128x128, .f32⟩
  | 60 => ⟨S128x128, .f32⟩
  | 61 => ⟨S128x128, .f32⟩
  | 62 => ⟨S1, .f32⟩
  | 63 => ⟨S_, .f32⟩
  | 64 => ⟨S128x128, .f32⟩
  | 65 => ⟨S128x128, .f32⟩
  | 66 => ⟨S128x128, .f32⟩
  | 67 => ⟨S128x128, .f32⟩
  | 68 => ⟨S128x1000, .f32⟩
  | 69 => ⟨S128x1000, .f32⟩
  | 70 => ⟨S1x1000, .f32⟩
  | 71 => ⟨S128x1000, .f32⟩
  | 72 => ⟨S128x1000, .f32⟩
  | 73 => ⟨S_, .f32⟩
  | 74 => ⟨S128x1000, .f32⟩
  | 75 => ⟨S128x1000, .f32⟩
  | 76 => ⟨S1x1000, .f32⟩
  | 77 => ⟨S128x1000, .f32⟩
  | 78 => ⟨S128x1000, .f32⟩
  | 79 => ⟨S1x1000, .f32⟩
  | 80 => ⟨S128x1000, .f32⟩
  | 81 => ⟨S128x1000, .f32⟩
  | 82 => ⟨S_, .f32⟩
  | 83 => ⟨S128x1000, .f32⟩
  | 84 => ⟨S128x1000, .f32⟩
  | _ => ⟨S128x1600, .f32⟩

abbrev hbmTy (i : Nat) : BufTy := match i / 128 with
  | 0 => hbmTy0_0 i
  | 1 => hbmTy0_1 i
  | 2 => hbmTy0_2 i
  | _ => ⟨S128x1600, .f32⟩

abbrev bufTy : (tb : Table) → Fin (tcTables nBuf tb) → BufTy
  | .hbm, ⟨i, _⟩ => hbmTy i
  | _, _ => ⟨S128x1600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_c : Ref sig .tc := ⟨.hbm, 21, rfl⟩
abbrev main_call0_v0 : Ref sig .tc := ⟨.hbm, 22, rfl⟩
abbrev main_v1 : Ref sig .tc := ⟨.hbm, 23, rfl⟩
abbrev main_cst : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_0 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_1 : Ref sig .tc := ⟨.hbm, 92, rfl⟩
abbrev main_v68 : Ref sig .tc := ⟨.hbm, 93, rfl⟩
abbrev main_v69 : Ref sig .tc := ⟨.hbm, 94, rfl⟩
abbrev main_cst_2 : Ref sig .tc := ⟨.hbm, 95, rfl⟩
abbrev main_call1_v0 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_c_3 : Ref sig .tc := ⟨.hbm, 105, rfl⟩
abbrev main_call2_v0 : Ref sig .tc := ⟨.hbm, 106, rfl⟩
abbrev main_v78 : Ref sig .tc := ⟨.hbm, 107, rfl⟩
abbrev main_cst_4 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_cst_5 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_cst_6 : Ref sig .tc := ⟨.hbm, 176, rfl⟩
abbrev main_v145 : Ref sig .tc := ⟨.hbm, 177, rfl⟩
abbrev main_v146 : Ref sig .tc := ⟨.hbm, 178, rfl⟩
abbrev main_cst_7 : Ref sig .tc := ⟨.hbm, 179, rfl⟩
abbrev main_call3_v0 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_cst_8 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_cst_9 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_cst_10 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_values : Ref sig .tc := ⟨.hbm, 218, rfl⟩
abbrev main_indices : Ref sig .tc := ⟨.hbm, 219, rfl⟩
abbrev main_cst_11 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_c_12 : Ref sig .tc := ⟨.hbm, 224, rfl⟩
abbrev main_v184 : Ref sig .tc := ⟨.hbm, 225, rfl⟩
abbrev main_v185 : Ref sig .tc := ⟨.hbm, 226, rfl⟩
abbrev main_c_13 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_c_14 : Ref sig .tc := ⟨.hbm, 231, rfl⟩
abbrev main_v189 : Ref sig .tc := ⟨.hbm, 232, rfl⟩
abbrev main_v190 : Ref sig .tc := ⟨.hbm, 233, rfl⟩
abbrev main_c_15 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_cst_16 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_c_17 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_cst_18 : Ref sig .tc := ⟨.hbm, 251, rfl⟩
abbrev main_call4_v0 : Ref sig .tc := ⟨.hbm, 252, rfl⟩
abbrev main_call4_v1 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_c_19 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_cst_20 : Ref sig .tc := ⟨.hbm, 264, rfl⟩
abbrev main_v214 : Ref sig .tc := ⟨.hbm, 265, rfl⟩
abbrev main_cst_21 : Ref sig .tc := ⟨.hbm, 266, rfl⟩
abbrev main_v215 : Ref sig .tc := ⟨.hbm, 267, rfl⟩
abbrev main_v216 : Ref sig .tc := ⟨.hbm, 268, rfl⟩
abbrev main_v217 : Ref sig .tc := ⟨.hbm, 269, rfl⟩
abbrev main_cst_22 : Ref sig .tc := ⟨.hbm, 270, rfl⟩
abbrev main_v218 : Ref sig .tc := ⟨.hbm, 271, rfl⟩
abbrev main_v219 : Ref sig .tc := ⟨.hbm, 272, rfl⟩
abbrev main_call5_cst : Ref sig .tc := ⟨.hbm, 273, rfl⟩
abbrev main_call5_v0 : Ref sig .tc := ⟨.hbm, 274, rfl⟩
abbrev main_call5_v1 : Ref sig .tc := ⟨.hbm, 275, rfl⟩
abbrev main_call5_v2 : Ref sig .tc := ⟨.hbm, 276, rfl⟩
abbrev main_call5_c : Ref sig .tc := ⟨.hbm, 277, rfl⟩
abbrev main_call5_v3 : Ref sig .tc := ⟨.hbm, 278, rfl⟩
abbrev main_call5_v4 : Ref sig .tc := ⟨.hbm, 279, rfl⟩
abbrev main_call5_v5 : Ref sig .tc := ⟨.hbm, 280, rfl⟩
abbrev main_call5_v6 : Ref sig .tc := ⟨.hbm, 281, rfl⟩
abbrev main_call5_cst_0 : Ref sig .tc := ⟨.hbm, 282, rfl⟩
abbrev main_call5_call0_v0 : Ref sig .tc := ⟨.hbm, 283, rfl⟩
abbrev main_call5_call0_v1 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_cst_23 : Ref sig .tc := ⟨.hbm, 289, rfl⟩
abbrev main_v224 : Ref sig .tc := ⟨.hbm, 290, rfl⟩
abbrev main_cst_24 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_v228 : Ref sig .tc := ⟨.hbm, 295, rfl⟩
abbrev main_v229 : Ref sig .tc := ⟨.hbm, 296, rfl⟩
abbrev main_cst_25 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩
abbrev main_v233 : Ref sig .tc := ⟨.hbm, 301, rfl⟩
abbrev main_v234 : Ref sig .tc := ⟨.hbm, 302, rfl⟩
abbrev main_v235 : Ref sig .tc := ⟨.hbm, 303, rfl⟩
abbrev main_v236 : Ref sig .tc := ⟨.hbm, 304, rfl⟩
abbrev main_v237 : Ref sig .tc := ⟨.hbm, 305, rfl⟩
abbrev main_c_26 : Ref sig .tc := ⟨.hbm, 306, rfl⟩
abbrev main_v238 : Ref sig .tc := ⟨.hbm, 307, rfl⟩
abbrev main_v239 : Ref sig .tc := ⟨.hbm, 308, rfl⟩
abbrev main_v240 : Ref sig .tc := ⟨.hbm, 309, rfl⟩
abbrev main_v241 : Ref sig .tc := ⟨.hbm, 310, rfl⟩
abbrev main_v242 : Ref sig .tc := ⟨.hbm, 311, rfl⟩
abbrev main_v243 : Ref sig .tc := ⟨.hbm, 312, rfl⟩
abbrev main_v244 : Ref sig .tc := ⟨.hbm, 313, rfl⟩
abbrev main_v245 : Ref sig .tc := ⟨.hbm, 314, rfl⟩
abbrev main_v246 : Ref sig .tc := ⟨.hbm, 315, rfl⟩
abbrev main_v247 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_v251 : Ref sig .tc := ⟨.hbm, 320, rfl⟩
abbrev main_v252 : Ref sig .tc := ⟨.hbm, 321, rfl⟩
abbrev main_v253 : Ref sig .tc := ⟨.hbm, 322, rfl⟩
abbrev main_v254 : Ref sig .tc := ⟨.hbm, 323, rfl⟩
abbrev main_v255 : Ref sig .tc := ⟨.hbm, 324, rfl⟩
abbrev main_v256 : Ref sig .tc := ⟨.hbm, 325, rfl⟩
abbrev main_v257 : Ref sig .tc := ⟨.hbm, 326, rfl⟩
abbrev main_v258 : Ref sig .tc := ⟨.hbm, 327, rfl⟩
abbrev main_v259 : Ref sig .tc := ⟨.hbm, 328, rfl⟩
abbrev main_cst_27 : Ref sig .tc := ⟨.hbm, 329, rfl⟩
abbrev main_v260 : Ref sig .tc := ⟨.hbm, 330, rfl⟩
abbrev main_v261 : Ref sig .tc := ⟨.hbm, 331, rfl⟩
abbrev main_v262 : Ref sig .tc := ⟨.hbm, 332, rfl⟩
abbrev main_v263 : Ref sig .tc := ⟨.hbm, 333, rfl⟩
abbrev main_v264 : Ref sig .tc := ⟨.hbm, 334, rfl⟩
abbrev main_v265 : Ref sig .tc := ⟨.hbm, 335, rfl⟩
abbrev main_v266 : Ref sig .tc := ⟨.hbm, 336, rfl⟩
abbrev main_v267 : Ref sig .tc := ⟨.hbm, 337, rfl⟩
abbrev main_cst_28 : Ref sig .tc := ⟨.hbm, 338, rfl⟩
abbrev main_v268 : Ref sig .tc := ⟨.hbm, 339, rfl⟩
abbrev main_v269 : Ref sig .tc := ⟨.hbm, 340, rfl⟩

abbrev nD : Nat := 1
abbrev τ : Topo := Topo.v7x

variable {F : FTy → Type} [FloatOps F]
-- ==== Proof.Spec.lean ====
module

public import Idealize.ShloMosaic.Lib.Pointwise

/-! The mathematics both programs compute, stage by stage, over functions of bounded indices (image positions are
plain naturals). Every stage is written as the reference computes it. -/

@[expose] public section

set_option maxRecDepth 16384

noncomputable section

namespace Cert.K.Spec
open Idealize.ShloMosaic

/-- The arguments, as functions of their coordinates. -/
structure Args where
  F : Fin 128 → Fin 1600 → EReal
  w1 : Fin 64 → Fin 64 → Fin 3 → Fin 3 → EReal
  b1 : Fin 64 → EReal
  g1 : Fin 64 → EReal
  e1 : Fin 64 → EReal
  w2 : Fin 64 → Fin 3 → Fin 3 → EReal
  b2 : EReal
  g2 : EReal
  e2 : EReal
  w3 : Fin 8 → Fin 4 → EReal
  b3 : Fin 8 → EReal
  w4 : Fin 8 → EReal
  b4 : EReal
  gw : Fin 1600 → Fin 1000 → EReal
  gb : Fin 1000 → EReal
  g3 : Fin 1000 → EReal
  e3 : Fin 1000 → EReal
  al : Fin 3 → EReal

/-- The batch norms' factor `1 / sqrt (1 + 1e-5)`. -/
def bnc : EReal := Ideal.ofBits .f32 0x3F7FFFAC#32
/-- The divisor's offset. -/
def eps : EReal := Ideal.ofBits .f32 0x25800000#32

variable (A : Args)

/-- The input image with its border of zeros. -/
def xpad (n : Fin 128) (c : Fin 64) (u v : ℕ) : EReal :=
  if h : (1 ≤ u ∧ u - 1 < 5) ∧ 1 ≤ v ∧ v - 1 < 5 then
    A.F n ⟨c.val * 25 + (u - 1) * 5 + (v - 1), by have := c.isLt; omega⟩ else 0

/-- One tap of the first convolution at padded position `(u, v)`. -/
def tap1 (n : Fin 128) (o : Fin 64) (a b : Fin 3) (u v : ℕ) : EReal := ∑ c : Fin 64, A.w1 o c a b * xpad A n c u v

/-- The first convolution without its bias. -/
def conv1 (n : Fin 128) (o : Fin 64) (i j : ℕ) : EReal :=
  tap1 A n o 0 0 i j + tap1 A n o 0 1 i (1 + j) + tap1 A n o 0 2 i (2 + j)
    + tap1 A n o 1 0 (1 + i) j + tap1 A n o 1 1 (1 + i) (1 + j) + tap1 A n o 1 2 (1 + i) (2 + j)
    + tap1 A n o 2 0 (2 + i) j + tap1 A n o 2 1 (2 + i) (1 + j) + tap1 A n o 2 2 (2 + i) (2 + j)

/-- Batch norm and relu of a channel: the bias first. -/
def bnrelu (x b g e : EReal) : EReal := max ((x + b) * bnc * g + e) 0

/-- The first layer. -/
def y (n : Fin 128) (o : Fin 64) (i j : ℕ) : EReal := bnrelu (conv1 A n o i j) (A.b1 o) (A.g1 o) (A.e1 o)

/-- The first layer with the pool's border. -/
def ypad (n : Fin 128) (o : Fin 64) (u v : ℕ) : EReal :=
  if (1 ≤ u ∧ u - 1 < 5) ∧ 1 ≤ v ∧ v - 1 < 5 then y A n o (u - 1) (v - 1) else ⊥

/-- The first pool. -/
def p (n : Fin 128) (o : Fin 64) (i j : ℕ) : EReal :=
  max (max (ypad A n o (2 * i) (2 * j)) (ypad A n o (2 * i) (1 + 2 * j)))
    (max (ypad A n o (1 + 2 * i) (2 * j)) (ypad A n o (1 + 2 * i) (1 + 2 * j)))

/-- The pooled image with its border of zeros. -/
def ppad (n : Fin 128) (c : Fin 64) (u v : ℕ) : EReal :=
  if (1 ≤ u ∧ u - 1 < 3) ∧ 1 ≤ v ∧ v - 1 < 3 then p A n c (u - 1) (v - 1) else 0

/-- One tap of the second convolution. -/
def tap2 (n : Fin 128) (a b : Fin 3) (u v : ℕ) : EReal := ∑ c : Fin 64, A.w2 c a b * ppad A n c u v

/-- The second convolution without its bias. -/
def conv2 (n : Fin 128) (i j : ℕ) : EReal :=
  tap2 A n 0 0 i j + tap2 A n 0 1 i (1 + j) + tap2 A n 0 2 i (2 + j)
    + tap2 A n 1 0 (1 + i) j + tap2 A n 1 1 (1 + i) (1 + j) + tap2 A n 1 2 (1 + i) (2 + j)
    + tap2 A n 2 0 (2 + i) j + tap2 A n 2 1 (2 + i) (1 + j) + tap2 A n 2 2 (2 + i) (2 + j)

/-- The second layer. -/
def z (n : Fin 128) (i j : ℕ) : EReal := bnrelu (conv2 A n i j) A.b2 A.g2 A.e2

/-- The second layer with the pool's border. -/
def zpad (n : Fin 128) (u v : ℕ) : EReal :=
  if (1 ≤ u ∧ u - 1 < 3) ∧ 1 ≤ v ∧ v - 1 < 3 then z A n (u - 1) (v - 1) else ⊥

/-- The second pool. -/
def vv (n : Fin 128) (i j : ℕ) : EReal :=
  max (max (zpad A n (2 * i) (2 * j)) (zpad A n (2 * i) (1 + 2 * j)))
    (max (zpad A n (1 + 2 * i) (2 * j)) (zpad A n (1 + 2 * i) (1 + 2 * j)))

/-- The hidden dense layer. -/
def h3 (n : Fin 128) (u : Fin 8) : EReal :=
  max ((∑ k : Fin 4, vv A n (k.val / 2) (k.val % 2) * A.w3 u k) + A.b3 u) 0

/-- The divisor of row `n`. -/
def s (n : Fin 128) : EReal := (∑ u : Fin 8, h3 A n u * A.w4 u) + A.b4 + eps

/-- The scaled features. -/
def f (n : Fin 128) (k : Fin 1600) : EReal := Ideal.div (A.F n k) (s A n)

/-- The squared distance of two rows. -/
def d2 (i j : Fin 128) : EReal := ∑ k : Fin 1600, (f A i k - f A j k) * (f A i k - f A j k)

/-- The similarity of two rows. -/
def ae (i j : Fin 128) : EReal := Ideal.exp (-(d2 A i j))

/-- How many entries of a row are larger than its entry `j`. -/
def rank (v : Fin 128 → EReal) (j : Fin 128) : ℕ := (Finset.univ.filter fun k => v j < v k).card

/-- The weighted adjacency: the diagonal, and the 26 nearest rows. -/
def adj (i j : Fin 128) : EReal :=
  (if i = j then 1 else 0) + (if i ≠ j ∧ rank (ae A i) j < 26 then ae A i j else 0)

/-- The reciprocal root of the degree. -/
def rc (i : Fin 128) : EReal := Ideal.div 1 (Ideal.sqrt ((∑ j, adj A i j) + 1))

/-- The normalised adjacency. -/
def an (i j : Fin 128) : EReal := rc A i * adj A i j * rc A j

/-- The mixing matrix. -/
def mm (i j : Fin 128) : EReal :=
  A.al 0 * (if i = j then 1 else 0) + A.al 1 * an A i j + A.al 2 * ∑ k, an A i k * an A k j

/-- The layer's linear part. -/
def lin (i : Fin 128) (o : Fin 1000) : EReal := ∑ k, mm A i k * ∑ l, A.F k l * A.gw l o

/-- The result. -/
def out (i : Fin 128) (o : Fin 1000) : EReal := bnrelu (lin A i o) (A.gb o) (A.g3 o) (A.e3 o)

end Cert.K.Spec
-- ==== Proof.KerTap.lean ====
module

public import proofs.«01_k».proof.Proof.Gen.KernelIdeal.Skeleton
public import proofs.«01_k».proof.Proof.Spec
public import Idealize.ShloMosaic.Lib.WordCmp

/-! What the kernel's vectors hold, in terms of the stages: the taps, the folded batch norm, the permuted weights. -/

@[expose] public section

set_option maxRecDepth 16384

noncomputable section

namespace Cert.K.Ker
open Cert.KernelIdeal Cert.KernelIdeal.Gen
open Idealize.ShloMosaic Idealize.ShloMosaic.TcCoe Idealize.SL.Sem

/-- A finite value. -/
def Fin' (x : EReal) : Prop := ∃ r : ℝ, x = (r : EReal)

theorem bnc_real : Fin' Spec.bnc := by
  have h : Spec.bnc = (((16777132 : ℝ) * (2 ^ 24)⁻¹ : ℝ) : EReal) := by
    unfold Spec.bnc
    simp [Ideal.ofBits, Ideal.ieee]
  exact ⟨_, h⟩

theorem add_mul_real (x : EReal) (b r : ℝ) : (x + b) * (r : EReal) = x * r + b * r := by
  induction x with
  | bot =>
    rcases lt_trichotomy r 0 with h | h | h
    · simp [EReal.bot_mul_coe_of_neg h, ← EReal.coe_mul]
    · simp [h]
    · simp [EReal.bot_mul_coe_of_pos h]
  | top =>
    rcases lt_trichotomy r 0 with h | h | h
    · simp [EReal.top_mul_coe_of_neg h]
    · simp [h]
    · simp [EReal.top_mul_coe_of_pos h, ← EReal.coe_mul]
  | coe x => norm_cast; ring

/-- The batch norm with its bias folded into the offset. -/
theorem bnrelu_eq (x b g e : EReal) (hb : Fin' b) (hg : Fin' g) :
    Spec.bnrelu x b g e = max (x * (g * Spec.bnc) + (b * (g * Spec.bnc) + e)) 0 := by
  obtain ⟨b, rfl⟩ := hb
  obtain ⟨g, rfl⟩ := hg
  obtain ⟨c, hc⟩ := bnc_real
  unfold Spec.bnrelu
  rw [hc, mul_assoc, ← EReal.coe_mul c g, add_mul_real, ← EReal.coe_mul g c, mul_comm c g, add_assoc]

variable (A : Spec.Args)

/-- `b` is the block of image position `q`. -/
def X (q : Fin 25) (b : FVec Ideal S128x64 .f32) : Prop :=
  ∀ (n : Fin 128) (c : Fin 64), b (ix2 n c) = A.F n ⟨c.val * 25 + q.val, by omega⟩
/-- `w` holds the first convolution's weights, one block of rows per tap. -/
def W (w : FVec Ideal S576x64 .f32) : Prop :=
  ∀ (t : Fin 9) (c o : Fin 64), w (ix2 ⟨64 * t.val + c.val, by omega⟩ o) = A.w1 o c ⟨t.val / 3, by omega⟩ ⟨t.val % 3, by omega⟩
/-- The first batch norm's factor. -/
def SC (v : FVec Ideal S1x64 .f32) : Prop := ∀ o : Fin 64, v (ix2 0 o) = A.g1 o * Spec.bnc
/-- The first batch norm's offset. -/
def CB (v : FVec Ideal S1x64 .f32) : Prop := ∀ o : Fin 64, v (ix2 0 o) = A.b1 o * (A.g1 o * Spec.bnc) + A.e1 o
/-- `v` is the first layer at `(i, j)`. -/
def Y (i j : ℕ) (v : FVec Ideal S128x64 .f32) : Prop := ∀ (n : Fin 128) (o : Fin 64), v (ix2 n o) = Spec.y A n o i j
/-- `v` holds the nine taps of the second convolution at pooled position `(i, j)`. -/
def Q (i j : ℕ) (v : FVec Ideal S128x9 .f32) : Prop :=
  ∀ (n : Fin 128) (t : Fin 9), v (ix2 n t) = Spec.tap2 A n ⟨t.val / 3, by omega⟩ ⟨t.val % 3, by omega⟩ (i + 1) (j + 1)
/-- The second convolution's weights. -/
def W2 (v : FVec Ideal S64x9 .f32) : Prop :=
  ∀ (c : Fin 64) (t : Fin 9), v (ix2 c t) = A.w2 c ⟨t.val / 3, by omega⟩ ⟨t.val % 3, by omega⟩
/-- `v` is the second layer at `(i, j)`. -/
def Z (i j : ℕ) (v : FVec Ideal S128x1 .f32) : Prop := ∀ n : Fin 128, v (ix2 n 0) = Spec.z A n i j

theorem tap_eq {b : FVec Ideal S128x64 .f32} {w : FVec Ideal S576x64 .f32} (q : Fin 25) (t : Fin 9) (hb : X A q b) (hw : W A w)
    (n : Fin 128) (o : Fin 64) :
    ∑ x : Fin 64, b (ix2 n x) * w (ix2 ⟨64 * t.val + x.val, by omega⟩ o)
      = Spec.tap1 A n o ⟨t.val / 3, by omega⟩ ⟨t.val % 3, by omega⟩ (q.val / 5 + 1) (q.val % 5 + 1) := by
  unfold Spec.tap1
  refine Finset.sum_congr rfl fun c _ => ?_
  rw [hb, hw, mul_comm]
  congr 1
  unfold Spec.xpad
  rw [dif_pos (by omega)]
  congr 2
  show c.val * 25 + q.val = c.val * 25 + (q.val / 5 + 1 - 1) * 5 + (q.val % 5 + 1 - 1)
  omega

theorem tap_eq0 {b : FVec Ideal S128x64 .f32} {w : FVec Ideal S576x64 .f32} (q : Fin 25) (hb : X A q b) (hw : W A w)
    (n : Fin 128) (o : Fin 64) :
    ∑ x : Fin 64, b (ix2 n x) * w (ix2 ⟨x.val, by omega⟩ o) = Spec.tap1 A n o 0 0 (q.val / 5 + 1) (q.val % 5 + 1) := by
  rw [show Spec.tap1 A n o 0 0 (q.val / 5 + 1) (q.val % 5 + 1) = _ from (tap_eq A q 0 hb hw n o).symm]
  refine Finset.sum_congr rfl fun c _ => ?_
  congr 3
  exact Fin.ext (by simp)

variable (n : Fin 128) (o : Fin 64) (a b : Fin 3) (u v : ℕ)

theorem tap1_row0 : Spec.tap1 A n o a b 0 v = 0 := by simp [Spec.tap1, Spec.xpad]
theorem tap1_row6 : Spec.tap1 A n o a b 6 v = 0 := by simp [Spec.tap1, Spec.xpad]
theorem tap1_col0 : Spec.tap1 A n o a b u 0 = 0 := by simp [Spec.tap1, Spec.xpad]
theorem tap1_col6 : Spec.tap1 A n o a b u 6 = 0 := by simp [Spec.tap1, Spec.xpad]
theorem tap2_row0 : Spec.tap2 A n a b 0 v = 0 := by simp [Spec.tap2, Spec.ppad]
theorem tap2_row4 : Spec.tap2 A n a b 4 v = 0 := by simp [Spec.tap2, Spec.ppad]
theorem tap2_col0 : Spec.tap2 A n a b u 0 = 0 := by simp [Spec.tap2, Spec.ppad]
theorem tap2_col4 : Spec.tap2 A n a b u 4 = 0 := by simp [Spec.tap2, Spec.ppad]

/-- Row `r` of the permuted weights is column `src r` of the weights as they come. -/
def src (r : Fin 576) : BitVec 32 :=
  (IntOp.addi
                (IntOp.muli
                  (Scalar.select
                    (IntOp.andi
                      (IntOp.xori
                        (IntOp.cmpi CmpIPredicate.slt
                          (IntOp.remsi ArithUnit.vector (BitVec.ofNat 32 ↑r)
                            (Scalar.select (Scalar.cmpi CmpIPredicate.eq 64#32 0#32) 1#32 64#32))
                          0#32)
                        (Scalar.cmpi CmpIPredicate.slt
                          (Scalar.select (Scalar.cmpi CmpIPredicate.eq 64#32 0#32) 1#32 64#32) 0#32))
                      (IntOp.cmpi CmpIPredicate.ne
                        (IntOp.remsi ArithUnit.vector (BitVec.ofNat 32 ↑r)
                          (Scalar.select (Scalar.cmpi CmpIPredicate.eq 64#32 0#32) 1#32 64#32))
                        0#32))
                    (IntOp.addi
                      (IntOp.remsi ArithUnit.vector (BitVec.ofNat 32 ↑r)
                        (Scalar.select (Scalar.cmpi CmpIPredicate.eq 64#32 0#32) 1#32 64#32))
                      (Scalar.select (Scalar.cmpi CmpIPredicate.eq 64#32 0#32) 1#32 64#32))
                    (IntOp.remsi ArithUnit.vector (BitVec.ofNat 32 ↑r)
                      (Scalar.select (Scalar.cmpi CmpIPredicate.eq 64#32 0#32) 1#32 64#32)))
                  9#32)
                (Scalar.select
                  (IntOp.andi
                    (IntOp.cmpi CmpIPredicate.ne
                      (IntOp.subi (BitVec.setWidth 32 (IntOp.cmpi CmpIPredicate.sgt (BitVec.ofNat 32 ↑r) 0#32))
                        (BitVec.setWidth 32 (IntOp.cmpi CmpIPredicate.slt (BitVec.ofNat 32 ↑r) 0#32)))
                      (Scalar.subi (1#32) (Scalar.extui 0#1)))
                    (IntOp.cmpi CmpIPredicate.ne (IntOp.remsi ArithUnit.vector (BitVec.ofNat 32 ↑r) 64#32) 0#32))
                  (IntOp.subi (IntOp.divsi ArithUnit.vector (BitVec.ofNat 32 ↑r) 64#32) 1#32)
                  (IntOp.divsi ArithUnit.vector (BitVec.ofNat 32 ↑r) 64#32)))

theorem src_eq : ∀ r : Fin 576, src r = BitVec.ofNat 32 (r.val % 64 * 9 + r.val / 64) := by decide +kernel

theorem sitofp_bool (p : Prop) [Decidable p] :
    FloatOps.sitofp (F := Ideal) .f32 (BitVec.setWidth 32 (BitVec.ofBool (decide p))) = (if p then 1 else 0 : EReal) := by
  show (((BitVec.setWidth 32 (BitVec.ofBool (decide p))).toInt : ℝ) : EReal) = _
  by_cases h : p <;> simp [h]

/-- The permuted weights. -/
theorem weights (x2 : FVec Ideal S64x576 .f32)
    (h : ∀ (o c : Fin 64) (t : Fin 9), x2 (ix2 o ⟨c.val * 9 + t.val, by omega⟩) = A.w1 o c ⟨t.val / 3, by omega⟩ ⟨t.val % 3, by omega⟩) :
    W A (k0_pay6 (k0_pay2 x2) (iota Kind.tc S576x576 32 [0] iota_S576x576_d0_w32) (iota Kind.tc S576x576 32 [1] iota_S576x576_d1_w32)
      k0_pay3 64#32 k0_pay4 k0_pay5 1#32 0#1) := by
  intro t c o
  pointwise [k0_pay6, k0_pay3, k0_pay4, k0_pay5, k0_pay2]
  have hs := src_eq ⟨64 * t.val + c.val, by omega⟩
  unfold src at hs
  simp only [hs]
  have hm : (64 * t.val + c.val) % 64 * 9 + (64 * t.val + c.val) / 64 = c.val * 9 + t.val := by omega
  simp only [hm]
  have hk : ∀ x : Fin 576, IntOp.cmpi .eq (BitVec.ofNat 32 x.val) (BitVec.ofNat 32 (c.val * 9 + t.val))
      = BitVec.ofBool (decide (x = ⟨c.val * 9 + t.val, by omega⟩)) := by
    intro x
    rw [Idealize.ShloMosaic.WordCmp.cmpi_eq_ofNat (by omega) (by omega)]
    simp only [Fin.ext_iff]
  simp only [hk, sitofp_bool]
  rw [Finset.sum_eq_single (⟨c.val * 9 + t.val, by omega⟩ : Fin 576)]
  · rw [if_pos rfl, one_mul, h]
  · intro x _ hx
    rw [if_neg hx, zero_mul]
  · intro hx
    exact absurd (Finset.mem_univ _) hx

end Cert.K.Ker
-- ==== Proof.KerConv.lean ====
module

public import proofs.«01_k».proof.Proof.KerTap

/-! The twenty-five positions of the first layer, as the kernel writes each of them. -/

@[expose] public section

set_option maxRecDepth 16384

noncomputable section

namespace Cert.K.Ker
open Cert.KernelIdeal Cert.KernelIdeal.Gen
open Idealize.ShloMosaic Idealize.ShloMosaic.TcCoe Idealize.SL.Sem

variable (A : Spec.Args)

theorem x_0 {b : FVec Ideal S128x64 .f32} (h : X A 0 b) : X A 0 (k0_pay7 b) := by
  intro n c
  pointwise [k0_pay7]
  exact h n c
theorem x_1 {b : FVec Ideal S128x64 .f32} (h : X A 1 b) : X A 1 (k0_pay8 b) := by
  intro n c
  pointwise [k0_pay8]
  exact h n c
theorem x_2 {b : FVec Ideal S128x64 .f32} (h : X A 2 b) : X A 2 (k0_pay9 b) := by
  intro n c
  pointwise [k0_pay9]
  exact h n c
theorem x_3 {b : FVec Ideal S128x64 .f32} (h : X A 3 b) : X A 3 (k0_pay10 b) := by
  intro n c
  pointwise [k0_pay10]
  exact h n c
theorem x_4 {b : FVec Ideal S128x64 .f32} (h : X A 4 b) : X A 4 (k0_pay11 b) := by
  intro n c
  pointwise [k0_pay11]
  exact h n c
theorem x_5 {b : FVec Ideal S128x64 .f32} (h : X A 5 b) : X A 5 (k0_pay12 b) := by
  intro n c
  pointwise [k0_pay12]
  exact h n c
theorem x_6 {b : FVec Ideal S128x64 .f32} (h : X A 6 b) : X A 6 (k0_pay13 b) := by
  intro n c
  pointwise [k0_pay13]
  exact h n c
theorem x_7 {b : FVec Ideal S128x64 .f32} (h : X A 7 b) : X A 7 (k0_pay14 b) := by
  intro n c
  pointwise [k0_pay14]
  exact h n c
theorem x_8 {b : FVec Ideal S128x64 .f32} (h : X A 8 b) : X A 8 (k0_pay15 b) := by
  intro n c
  pointwise [k0_pay15]
  exact h n c
theorem x_9 {b : FVec Ideal S128x64 .f32} (h : X A 9 b) : X A 9 (k0_pay16 b) := by
  intro n c
  pointwise [k0_pay16]
  exact h n c
theorem x_10 {b : FVec Ideal S128x64 .f32} (h : X A 10 b) : X A 10 (k0_pay17 b) := by
  intro n c
  pointwise [k0_pay17]
  exact h n c
theorem x_11 {b : FVec Ideal S128x64 .f32} (h : X A 11 b) : X A 11 (k0_pay18 b) := by
  intro n c
  pointwise [k0_pay18]
  exact h n c
theorem x_12 {b : FVec Ideal S128x64 .f32} (h : X A 12 b) : X A 12 (k0_pay19 b) := by
  intro n c
  pointwise [k0_pay19]
  exact h n c
theorem x_13 {b : FVec Ideal S128x64 .f32} (h : X A 13 b) : X A 13 (k0_pay20 b) := by
  intro n c
  pointwise [k0_pay20]
  exact h n c
theorem x_14 {b : FVec Ideal S128x64 .f32} (h : X A 14 b) : X A 14 (k0_pay21 b) := by
  intro n c
  pointwise [k0_pay21]
  exact h n c
theorem x_15 {b : FVec Ideal S128x64 .f32} (h : X A 15 b) : X A 15 (k0_pay22 b) := by
  intro n c
  pointwise [k0_pay22]
  exact h n c
theorem x_16 {b : FVec Ideal S128x64 .f32} (h : X A 16 b) : X A 16 (k0_pay23 b) := by
  intro n c
  pointwise [k0_pay23]
  exact h n c
theorem x_17 {b : FVec Ideal S128x64 .f32} (h : X A 17 b) : X A 17 (k0_pay24 b) := by
  intro n c
  pointwise [k0_pay24]
  exact h n c
theorem x_18 {b : FVec Ideal S128x64 .f32} (h : X A 18 b) : X A 18 (k0_pay25 b) := by
  intro n c
  pointwise [k0_pay25]
  exact h n c
theorem x_19 {b : FVec Ideal S128x64 .f32} (h : X A 19 b) : X A 19 (k0_pay26 b) := by
  intro n c
  pointwise [k0_pay26]
  exact h n c
theorem x_20 {b : FVec Ideal S128x64 .f32} (h : X A 20 b) : X A 20 (k0_pay27 b) := by
  intro n c
  pointwise [k0_pay27]
  exact h n c
theorem x_21 {b : FVec Ideal S128x64 .f32} (h : X A 21 b) : X A 21 (k0_pay28 b) := by
  intro n c
  pointwise [k0_pay28]
  exact h n c
theorem x_22 {b : FVec Ideal S128x64 .f32} (h : X A 22 b) : X A 22 (k0_pay29 b) := by
  intro n c
  pointwise [k0_pay29]
  exact h n c
theorem x_23 {b : FVec Ideal S128x64 .f32} (h : X A 23 b) : X A 23 (k0_pay30 b) := by
  intro n c
  pointwise [k0_pay30]
  exact h n c
theorem x_24 {b : FVec Ideal S128x64 .f32} (h : X A 24 b) : X A 24 (k0_pay31 b) := by
  intro n c
  pointwise [k0_pay31]
  exact h n c

theorem scale {g : FVec Ideal S1x64 .f32} (hg : ∀ o : Fin 64, g (ix2 0 o) = A.g1 o) : SC A (k0_pay32 g) := by
  intro o
  pointwise [k0_pay32]
  rw [hg]
  rfl

theorem offset {g b e : FVec Ideal S1x64 .f32} (hg : ∀ o : Fin 64, g (ix2 0 o) = A.g1 o) (hb : ∀ o : Fin 64, b (ix2 0 o) = A.b1 o)
    (he : ∀ o : Fin 64, e (ix2 0 o) = A.e1 o) : CB A (k0_pay33 g b e) := by
  intro o
  pointwise [k0_pay33, k0_pay32]
  rw [hg, hb, he]
  rfl

variable (fb1 : ∀ o, Fin' (A.b1 o)) (fg1 : ∀ o, Fin' (A.g1 o))
include fb1 fg1

theorem y_0_0 {w : FVec Ideal S576x64 .f32} (hw : W A w) {b0 b1 b5 b6 : FVec Ideal S128x64 .f32} (hb0 : X A 0 b0) (hb1 : X A 1 b1) (hb5 : X A 5 b5) (hb6 : X A 6 b6) {g b e : FVec Ideal S1x64 .f32} (hg : ∀ o : Fin 64, g (ix2 0 o) = A.g1 o) (hb : ∀ o : Fin 64, b (ix2 0 o) = A.b1 o) (he : ∀ o : Fin 64, e (ix2 0 o) = A.e1 o) :
    Y A 0 0 (k0_pay34 w b0 b1 b5 b6 g b e) := by
  intro n o
  have t4 : ∑ x : Fin 64, b0 (ix2 n x) * w (ix2 ⟨256 + x.val, by omega⟩ o) = Spec.tap1 A n o 1 1 1 1 := tap_eq A 0 4 hb0 hw n o
  have t5 : ∑ x : Fin 64, b1 (ix2 n x) * w (ix2 ⟨320 + x.val, by omega⟩ o) = Spec.tap1 A n o 1 2 1 2 := tap_eq A 1 5 hb1 hw n o
  have t7 : ∑ x : Fin 64, b5 (ix2 n x) * w (ix2 ⟨448 + x.val, by omega⟩ o) = Spec.tap1 A n o 2 1 2 1 := tap_eq A 5 7 hb5 hw n o
  have t8 : ∑ x : Fin 64, b6 (ix2 n x) * w (ix2 ⟨512 + x.val, by omega⟩ o) = Spec.tap1 A n o 2 2 2 2 := tap_eq A 6 8 hb6 hw n o
  have hc : Spec.conv1 A n o 0 0 = Spec.tap1 A n o 1 1 1 1 + Spec.tap1 A n o 1 2 1 2 + Spec.tap1 A n o 2 1 2 1 + Spec.tap1 A n o 2 2 2 2 := by
    simp only [Spec.conv1, Nat.reduceAdd, tap1_row0, tap1_row6, tap1_col0, tap1_col6, zero_add, add_zero]
  rw [Spec.y, bnrelu_eq _ _ _ _ (fb1 o) (fg1 o), hc]
  pointwise [k0_pay34]
  rw [scale A hg o, offset A hg hb he o]
  simp only [t4, t5, t7, t8]

theorem y_0_1 {w : FVec Ideal S576x64 .f32} (hw : W A w) {b0 b1 b2 b5 b6 b7 : FVec Ideal S128x64 .f32} (hb0 : X A 0 b0) (hb1 : X A 1 b1) (hb2 : X A 2 b2) (hb5 : X A 5 b5) (hb6 : X A 6 b6) (hb7 : X A 7 b7) {sc cb : FVec Ideal S1x64 .f32} (hsc : SC A sc) (hcb : CB A cb) :
    Y A 0 1 (k0_pay37 b7 sc cb (k0_pay35 w b0 b1 b2 b5 b6) (k0_pay36 w) (constant S128x64 FTy.f32 0#32)) := by
  intro n o
  have t3 : ∑ x : Fin 64, b0 (ix2 n x) * w (ix2 ⟨192 + x.val, by omega⟩ o) = Spec.tap1 A n o 1 0 1 1 := tap_eq A 0 3 hb0 hw n o
  have t4 : ∑ x : Fin 64, b1 (ix2 n x) * w (ix2 ⟨256 + x.val, by omega⟩ o) = Spec.tap1 A n o 1 1 1 2 := tap_eq A 1 4 hb1 hw n o
  have t5 : ∑ x : Fin 64, b2 (ix2 n x) * w (ix2 ⟨320 + x.val, by omega⟩ o) = Spec.tap1 A n o 1 2 1 3 := tap_eq A 2 5 hb2 hw n o
  have t6 : ∑ x : Fin 64, b5 (ix2 n x) * w (ix2 ⟨384 + x.val, by omega⟩ o) = Spec.tap1 A n o 2 0 2 1 := tap_eq A 5 6 hb5 hw n o
  have t7 : ∑ x : Fin 64, b6 (ix2 n x) * w (ix2 ⟨448 + x.val, by omega⟩ o) = Spec.tap1 A n o 2 1 2 2 := tap_eq A 6 7 hb6 hw n o
  have t8 : ∑ x : Fin 64, b7 (ix2 n x) * w (ix2 ⟨512 + x.val, by omega⟩ o) = Spec.tap1 A n o 2 2 2 3 := tap_eq A 7 8 hb7 hw n o
  have hc : Spec.conv1 A n o 0 1 = Spec.tap1 A n o 1 0 1 1 + Spec.tap1 A n o 1 1 1 2 + Spec.tap1 A n o 1 2 1 3 + Spec.tap1 A n o 2 0 2 1 + Spec.tap1 A n o 2 1 2 2 + Spec.tap1 A n o 2 2 2 3 := by
    simp only [Spec.conv1, Nat.reduceAdd, tap1_row0, tap1_row6, tap1_col0, tap1_col6, zero_add, add_zero]
  rw [Spec.y, bnrelu_eq _ _ _ _ (fb1 o) (fg1 o), hc]
  pointwise [k0_pay37, k0_pay35, k0_pay36]
  simp only [t3, t4, t5, t6, t7, t8, hsc o, hcb o]

theorem y_0_2 {w : FVec Ideal S576x64 .f32} (hw : W A w) {b1 b2 b3 b6 b7 b8 : FVec Ideal S128x64 .f32} (hb1 : X A 1 b1) (hb2 : X A 2 b2) (hb3 : X A 3 b3) (hb6 : X A 6 b6) (hb7 : X A 7 b7) (hb8 : X A 8 b8) {sc cb : FVec Ideal S1x64 .f32} (hsc : SC A sc) (hcb : CB A cb) :
    Y A 0 2 (k0_pay38 w b1 b2 b3 b6 b7 b8 sc cb) := by
  intro n o
  have t3 : ∑ x : Fin 64, b1 (ix2 n x) * w (ix2 ⟨192 + x.val, by omega⟩ o) = Spec.tap1 A n o 1 0 1 2 := tap_eq A 1 3 hb1 hw n o
  have t4 : ∑ x : Fin 64, b2 (ix2 n x) * w (ix2 ⟨256 + x.val, by omega⟩ o) = Spec.tap1 A n o 1 1 1 3 := tap_eq A 2 4 hb2 hw n o
  have t5 : ∑ x : Fin 64, b3 (ix2 n x) * w (ix2 ⟨320 + x.val, by omega⟩ o) = Spec.tap1 A n o 1 2 1 4 := tap_eq A 3 5 hb3 hw n o
  have t6 : ∑ x : Fin 64, b6 (ix2 n x) * w (ix2 ⟨384 + x.val, by omega⟩ o) = Spec.tap1 A n o 2 0 2 2 := tap_eq A 6 6 hb6 hw n o
  have t7 : ∑ x : Fin 64, b7 (ix2 n x) * w (ix2 ⟨448 + x.val, by omega⟩ o) = Spec.tap1 A n o 2 1 2 3 := tap_eq A 7 7 hb7 hw n o
  have t8 : ∑ x : Fin 64, b8 (ix2 n x) * w (ix2 ⟨512 + x.val, by omega⟩ o) = Spec.tap1 A n o 2 2 2 4 := tap_eq A 8 8 hb8 hw n o
  have hc : Spec.conv1 A n o 0 2 = Spec.tap1 A n o 1 0 1 2 + Spec.tap1 A n o 1 1 1 3 + Spec.tap1 A n o 1 2 1 4 + Spec.tap1 A n o 2 0 2 2 + Spec.tap1 A n o 2 1 2 3 + Spec.tap1 A n o 2 2 2 4 := by
    simp only [Spec.conv1, Nat.reduceAdd, tap1_row0, tap1_row6, tap1_col0, tap1_col6, zero_add, add_zero]
  rw [Spec.y, bnrelu_eq _ _ _ _ (fb1 o) (fg1 o), hc]
  pointwise [k0_pay38]
  simp only [t3, t4, t5, t6, t7, t8, hsc o, hcb o]

theorem y_0_3 {w : FVec Ideal S576x64 .f32} (hw : W A w) {b2 b3 b4 b7 b8 b9 : FVec Ideal S128x64 .f32} (hb2 : X A 2 b2) (hb3 : X A 3 b3) (hb4 : X A 4 b4) (hb7 : X A 7 b7) (hb8 : X A 8 b8) (hb9 : X A 9 b9) {sc cb : FVec Ideal S1x64 .f32} (hsc : SC A sc) (hcb : CB A cb) :
    Y A 0 3 (k0_pay41 b9 sc cb (k0_pay39 w b2 b3 b4 b7 b8) (k0_pay40 w) (constant S128x64 FTy.f32 0#32)) := by
  intro n o
  have t3 : ∑ x : Fin 64, b2 (ix2 n x) * w (ix2 ⟨192 + x.val, by omega⟩ o) = Spec.tap1 A n o 1 0 1 3 := tap_eq A 2 3 hb2 hw n o
  have t4 : ∑ x : Fin 64, b3 (ix2 n x) * w (ix2 ⟨256 + x.val, by omega⟩ o) = Spec.tap1 A n o 1 1 1 4 := tap_eq A 3 4 hb3 hw n o
  have t5 : ∑ x : Fin 64, b4 (ix2 n x) * w (ix2 ⟨320 + x.val, by omega⟩ o) = Spec.tap1 A n o 1 2 1 5 := tap_eq A 4 5 hb4 hw n o
  have t6 : ∑ x : Fin 64, b7 (ix2 n x) * w (ix2 ⟨384 + x.val, by omega⟩ o) = Spec.tap1 A n o 2 0 2 3 := tap_eq A 7 6 hb7 hw n o
  have t7 : ∑ x : Fin 64, b8 (ix2 n x) * w (ix2 ⟨448 + x.val, by omega⟩ o) = Spec.tap1 A n o 2 1 2 4 := tap_eq A 8 7 hb8 hw n o
  have t8 : ∑ x : Fin 64, b9 (ix2 n x) * w (ix2 ⟨512 + x.val, by omega⟩ o) = Spec.tap1 A n o 2 2 2 5 := tap_eq A 9 8 hb9 hw n o
  have hc : Spec.conv1 A n o 0 3 = Spec.tap1 A n o 1 0 1 3 + Spec.tap1 A n o 1 1 1 4 + Spec.tap1 A n o 1 2 1 5 + Spec.tap1 A n o 2 0 2 3 + Spec.tap1 A n o 2 1 2 4 + Spec.tap1 A n o 2 2 2 5 := by
    simp only [Spec.conv1, Nat.reduceAdd, tap1_row0, tap1_row6, tap1_col0, tap1_col6, zero_add, add_zero]
  rw [Spec.y, bnrelu_eq _ _ _ _ (fb1 o) (fg1 o), hc]
  pointwise [k0_pay41, k0_pay39, k0_pay40]
  simp only [t3, t4, t5, t6, t7, t8, hsc o, hcb o]

theorem y_0_4 {w : FVec Ideal S576x64 .f32} (hw : W A w) {b3 b4 b8 b9 : FVec Ideal S128x64 .f32} (hb3 : X A 3 b3) (hb4 : X A 4 b4) (hb8 : X A 8 b8) (hb9 : X A 9 b9) {sc cb : FVec Ideal S1x64 .f32} (hsc : SC A sc) (hcb : CB A cb) :
    Y A 0 4 (k0_pay42 w b3 b4 b8 b9 sc cb) := by
  intro n o
  have t3 : ∑ x : Fin 64, b3 (ix2 n x) * w (ix2 ⟨192 + x.val, by omega⟩ o) = Spec.tap1 A n o 1 0 1 4 := tap_eq A 3 3 hb3 hw n o
  have t4 : ∑ x : Fin 64, b4 (ix2 n x) * w (ix2 ⟨256 + x.val, by omega⟩ o) = Spec.tap1 A n o 1 1 1 5 := tap_eq A 4 4 hb4 hw n o
  have t6 : ∑ x : Fin 64, b8 (ix2 n x) * w (ix2 ⟨384 + x.val, by omega⟩ o) = Spec.tap1 A n o 2 0 2 4 := tap_eq A 8 6 hb8 hw n o
  have t7 : ∑ x : Fin 64, b9 (ix2 n x) * w (ix2 ⟨448 + x.val, by omega⟩ o) = Spec.tap1 A n o 2 1 2 5 := tap_eq A 9 7 hb9 hw n o
  have hc : Spec.conv1 A n o 0 4 = Spec.tap1 A n o 1 0 1 4 + Spec.tap1 A n o 1 1 1 5 + Spec.tap1 A n o 2 0 2 4 + Spec.tap1 A n o 2 1 2 5 := by
    simp only [Spec.conv1, Nat.reduceAdd, tap1_row0, tap1_row6, tap1_col0, tap1_col6, zero_add, add_zero]
  rw [Spec.y, bnrelu_eq _ _ _ _ (fb1 o) (fg1 o), hc]
  pointwise [k0_pay42]
  simp only [t3, t4, t6, t7, hsc o, hcb o]

theorem y_1_0 {w : FVec Ideal S576x64 .f32} (hw : W A w) {b0 b1 b5 b6 b10 b11 : FVec Ideal S128x64 .f32} (hb0 : X A 0 b0) (hb1 : X A 1 b1) (hb5 : X A 5 b5) (hb6 : X A 6 b6) (hb10 : X A 10 b10) (hb11 : X A 11 b11) {sc cb : FVec Ideal S1x64 .f32} (hsc : SC A sc) (hcb : CB A cb) :
    Y A 1 0 (k0_pay45 (k0_pay43 w b0 b1 b5 b6 b10 b11 sc cb) (k0_pay44 (F := Ideal))) := by
  intro n o
  have t1 : ∑ x : Fin 64, b0 (ix2 n x) * w (ix2 ⟨64 + x.val, by omega⟩ o) = Spec.tap1 A n o 0 1 1 1 := tap_eq A 0 1 hb0 hw n o
  have t2 : ∑ x : Fin 64, b1 (ix2 n x) * w (ix2 ⟨128 + x.val, by omega⟩ o) = Spec.tap1 A n o 0 2 1 2 := tap_eq A 1 2 hb1 hw n o
  have t4 : ∑ x : Fin 64, b5 (ix2 n x) * w (ix2 ⟨256 + x.val, by omega⟩ o) = Spec.tap1 A n o 1 1 2 1 := tap_eq A 5 4 hb5 hw n o
  have t5 : ∑ x : Fin 64, b6 (ix2 n x) * w (ix2 ⟨320 + x.val, by omega⟩ o) = Spec.tap1 A n o 1 2 2 2 := tap_eq A 6 5 hb6 hw n o
  have t7 : ∑ x : Fin 64, b10 (ix2 n x) * w (ix2 ⟨448 + x.val, by omega⟩ o) = Spec.tap1 A n o 2 1 3 1 := tap_eq A 10 7 hb10 hw n o
  have t8 : ∑ x : Fin 64, b11 (ix2 n x) * w (ix2 ⟨512 + x.val, by omega⟩ o) = Spec.tap1 A n o 2 2 3 2 := tap_eq A 11 8 hb11 hw n o
  have hc : Spec.conv1 A n o 1 0 = Spec.tap1 A n o 0 1 1 1 + Spec.tap1 A n o 0 2 1 2 + Spec.tap1 A n o 1 1 2 1 + Spec.tap1 A n o 1 2 2 2 + Spec.tap1 A n o 2 1 3 1 + Spec.tap1 A n o 2 2 3 2 := by
    simp only [Spec.conv1, Nat.reduceAdd, tap1_row0, tap1_row6, tap1_col0, tap1_col6, zero_add, add_zero]
  rw [Spec.y, bnrelu_eq _ _ _ _ (fb1 o) (fg1 o), hc]
  pointwise [k0_pay45, k0_pay43, k0_pay44]
  simp only [t1, t2, t4, t5, t7, t8, hsc o, hcb o]

theorem y_1_1 {w : FVec Ideal S576x64 .f32} (hw : W A w) {b0 b1 b2 b5 b6 b7 b10 b11 b12 : FVec Ideal S128x64 .f32} (hb0 : X A 0 b0) (hb1 : X A 1 b1) (hb2 : X A 2 b2) (hb5 : X A 5 b5) (hb6 : X A 6 b6) (hb7 : X A 7 b7) (hb10 : X A 10 b10) (hb11 : X A 11 b11) (hb12 : X A 12 b12) {sc cb : FVec Ideal S1x64 .f32} (hsc : SC A sc) (hcb : CB A cb) :
    Y A 1 1 (k0_pay46 w b0 b1 b2 b5 b6 b7 b10 b11 b12 sc cb) := by
  intro n o
  have t0 : ∑ x : Fin 64, b0 (ix2 n x) * w (ix2 ⟨x.val, by omega⟩ o) = Spec.tap1 A n o 0 0 1 1 := tap_eq0 A 0 hb0 hw n o
  have t1 : ∑ x : Fin 64, b1 (ix2 n x) * w (ix2 ⟨64 + x.val, by omega⟩ o) = Spec.tap1 A n o 0 1 1 2 := tap_eq A 1 1 hb1 hw n o
  have t2 : ∑ x : Fin 64, b2 (ix2 n x) * w (ix2 ⟨128 + x.val, by omega⟩ o) = Spec.tap1 A n o 0 2 1 3 := tap_eq A 2 2 hb2 hw n o
  have t3 : ∑ x : Fin 64, b5 (ix2 n x) * w (ix2 ⟨192 + x.val, by omega⟩ o) = Spec.tap1 A n o 1 0 2 1 := tap_eq A 5 3 hb5 hw n o
  have t4 : ∑ x : Fin 64, b6 (ix2 n x) * w (ix2 ⟨256 + x.val, by omega⟩ o) = Spec.tap1 A n o 1 1 2 2 := tap_eq A 6 4 hb6 hw n o
  have t5 : ∑ x : Fin 64, b7 (ix2 n x) * w (ix2 ⟨320 + x.val, by omega⟩ o) = Spec.tap1 A n o 1 2 2 3 := tap_eq A 7 5 hb7 hw n o
  have t6 : ∑ x : Fin 64, b10 (ix2 n x) * w (ix2 ⟨384 + x.val, by omega⟩ o) = Spec.tap1 A n o 2 0 3 1 := tap_eq A 10 6 hb10 hw n o
  have t7 : ∑ x : Fin 64, b11 (ix2 n x) * w (ix2 ⟨448 + x.val, by omega⟩ o) = Spec.tap1 A n o 2 1 3 2 := tap_eq A 11 7 hb11 hw n o
  have t8 : ∑ x : Fin 64, b12 (ix2 n x) * w (ix2 ⟨512 + x.val, by omega⟩ o) = Spec.tap1 A n o 2 2 3 3 := tap_eq A 12 8 hb12 hw n o
  have hc : Spec.conv1 A n o 1 1 = Spec.tap1 A n o 0 0 1 1 + Spec.tap1 A n o 0 1 1 2 + Spec.tap1 A n o 0 2 1 3 + Spec.tap1 A n o 1 0 2 1 + Spec.tap1 A n o 1 1 2 2 + Spec.tap1 A n o 1 2 2 3 + Spec.tap1 A n o 2 0 3 1 + Spec.tap1 A n o 2 1 3 2 + Spec.tap1 A n o 2 2 3 3 := by
    simp only [Spec.conv1, Nat.reduceAdd, tap1_row0, tap1_row6, tap1_col0, tap1_col6, zero_add, add_zero]
  rw [Spec.y, bnrelu_eq _ _ _ _ (fb1 o) (fg1 o), hc]
  pointwise [k0_pay46]
  simp only [t0, t1, t2, t3, t4, t5, t6, t7, t8, hsc o, hcb o]

theorem y_1_2 {w : FVec Ideal S576x64 .f32} (hw : W A w) {b1 b2 b3 b6 b7 b8 b11 b12 b13 : FVec Ideal S128x64 .f32} (hb1 : X A 1 b1) (hb2 : X A 2 b2) (hb3 : X A 3 b3) (hb6 : X A 6 b6) (hb7 : X A 7 b7) (hb8 : X A 8 b8) (hb11 : X A 11 b11) (hb12 : X A 12 b12) (hb13 : X A 13 b13) {sc cb : FVec Ideal S1x64 .f32} (hsc : SC A sc) (hcb : CB A cb) :
    Y A 1 2 (k0_pay49 w b7 b8 b11 b12 b13 sc cb (k0_pay47 w b1 b2 b3 b6) (k0_pay48 w) (constant S128x64 FTy.f32 0#32)) := by
  intro n o
  have t0 : ∑ x : Fin 64, b1 (ix2 n x) * w (ix2 ⟨x.val, by omega⟩ o) = Spec.tap1 A n o 0 0 1 2 := tap_eq0 A 1 hb1 hw n o
  have t1 : ∑ x : Fin 64, b2 (ix2 n x) * w (ix2 ⟨64 + x.val, by omega⟩ o) = Spec.tap1 A n o 0 1 1 3 := tap_eq A 2 1 hb2 hw n o
  have t2 : ∑ x : Fin 64, b3 (ix2 n x) * w (ix2 ⟨128 + x.val, by omega⟩ o) = Spec.tap1 A n o 0 2 1 4 := tap_eq A 3 2 hb3 hw n o
  have t3 : ∑ x : Fin 64, b6 (ix2 n x) * w (ix2 ⟨192 + x.val, by omega⟩ o) = Spec.tap1 A n o 1 0 2 2 := tap_eq A 6 3 hb6 hw n o
  have t4 : ∑ x : Fin 64, b7 (ix2 n x) * w (ix2 ⟨256 + x.val, by omega⟩ o) = Spec.tap1 A n o 1 1 2 3 := tap_eq A 7 4 hb7 hw n o
  have t5 : ∑ x : Fin 64, b8 (ix2 n x) * w (ix2 ⟨320 + x.val, by omega⟩ o) = Spec.tap1 A n o 1 2 2 4 := tap_eq A 8 5 hb8 hw n o
  have t6 : ∑ x : Fin 64, b11 (ix2 n x) * w (ix2 ⟨384 + x.val, by omega⟩ o) = Spec.tap1 A n o 2 0 3 2 := tap_eq A 11 6 hb11 hw n o
  have t7 : ∑ x : Fin 64, b12 (ix2 n x) * w (ix2 ⟨448 + x.val, by omega⟩ o) = Spec.tap1 A n o 2 1 3 3 := tap_eq A 12 7 hb12 hw n o
  have t8 : ∑ x : Fin 64, b13 (ix2 n x) * w (ix2 ⟨512 + x.val, by omega⟩ o) = Spec.tap1 A n o 2 2 3 4 := tap_eq A 13 8 hb13 hw n o
  have hc : Spec.conv1 A n o 1 2 = Spec.tap1 A n o 0 0 1 2 + Spec.tap1 A n o 0 1 1 3 + Spec.tap1 A n o 0 2 1 4 + Spec.tap1 A n o 1 0 2 2 + Spec.tap1 A n o 1 1 2 3 + Spec.tap1 A n o 1 2 2 4 + Spec.tap1 A n o 2 0 3 2 + Spec.tap1 A n o 2 1 3 3 + Spec.tap1 A n o 2 2 3 4 := by
    simp only [Spec.conv1, Nat.reduceAdd, tap1_row0, tap1_row6, tap1_col0, tap1_col6, zero_add, add_zero]
  rw [Spec.y, bnrelu_eq _ _ _ _ (fb1 o) (fg1 o), hc]
  pointwise [k0_pay49, k0_pay47, k0_pay48]
  simp only [t0, t1, t2, t3, t4, t5, t6, t7, t8, hsc o, hcb o]

theorem y_1_3 {w : FVec Ideal S576x64 .f32} (hw : W A w) {b2 b3 b4 b7 b8 b9 b12 b13 b14 : FVec Ideal S128x64 .f32} (hb2 : X A 2 b2) (hb3 : X A 3 b3) (hb4 : X A 4 b4) (hb7 : X A 7 b7) (hb8 : X A 8 b8) (hb9 : X A 9 b9) (hb12 : X A 12 b12) (hb13 : X A 13 b13) (hb14 : X A 14 b14) {sc cb : FVec Ideal S1x64 .f32} (hsc : SC A sc) (hcb : CB A cb) :
    Y A 1 3 (k0_pay51 sc cb (k0_pay50 w b2 b3 b4 b7 b8 b9 b12 b13 b14)) := by
  intro n o
  have t0 : ∑ x : Fin 64, b2 (ix2 n x) * w (ix2 ⟨x.val, by omega⟩ o) = Spec.tap1 A n o 0 0 1 3 := tap_eq0 A 2 hb2 hw n o
  have t1 : ∑ x : Fin 64, b3 (ix2 n x) * w (ix2 ⟨64 + x.val, by omega⟩ o) = Spec.tap1 A n o 0 1 1 4 := tap_eq A 3 1 hb3 hw n o
  have t2 : ∑ x : Fin 64, b4 (ix2 n x) * w (ix2 ⟨128 + x.val, by omega⟩ o) = Spec.tap1 A n o 0 2 1 5 := tap_eq A 4 2 hb4 hw n o
  have t3 : ∑ x : Fin 64, b7 (ix2 n x) * w (ix2 ⟨192 + x.val, by omega⟩ o) = Spec.tap1 A n o 1 0 2 3 := tap_eq A 7 3 hb7 hw n o
  have t4 : ∑ x : Fin 64, b8 (ix2 n x) * w (ix2 ⟨256 + x.val, by omega⟩ o) = Spec.tap1 A n o 1 1 2 4 := tap_eq A 8 4 hb8 hw n o
  have t5 : ∑ x : Fin 64, b9 (ix2 n x) * w (ix2 ⟨320 + x.val, by omega⟩ o) = Spec.tap1 A n o 1 2 2 5 := tap_eq A 9 5 hb9 hw n o
  have t6 : ∑ x : Fin 64, b12 (ix2 n x) * w (ix2 ⟨384 + x.val, by omega⟩ o) = Spec.tap1 A n o 2 0 3 3 := tap_eq A 12 6 hb12 hw n o
  have t7 : ∑ x : Fin 64, b13 (ix2 n x) * w (ix2 ⟨448 + x.val, by omega⟩ o) = Spec.tap1 A n o 2 1 3 4 := tap_eq A 13 7 hb13 hw n o
  have t8 : ∑ x : Fin 64, b14 (ix2 n x) * w (ix2 ⟨512 + x.val, by omega⟩ o) = Spec.tap1 A n o 2 2 3 5 := tap_eq A 14 8 hb14 hw n o
  have hc : Spec.conv1 A n o 1 3 = Spec.tap1 A n o 0 0 1 3 + Spec.tap1 A n o 0 1 1 4 + Spec.tap1 A n o 0 2 1 5 + Spec.tap1 A n o 1 0 2 3 + Spec.tap1 A n o 1 1 2 4 + Spec.tap1 A n o 1 2 2 5 + Spec.tap1 A n o 2 0 3 3 + Spec.tap1 A n o 2 1 3 4 + Spec.tap1 A n o 2 2 3 5 := by
    simp only [Spec.conv1, Nat.reduceAdd, tap1_row0, tap1_row6, tap1_col0, tap1_col6, zero_add, add_zero]
  rw [Spec.y, bnrelu_eq _ _ _ _ (fb1 o) (fg1 o), hc]
  pointwise [k0_pay51, k0_pay50]
  simp only [t0, t1, t2, t3, t4, t5, t6, t7, t8, hsc o, hcb o]

theorem y_1_4 {w : FVec Ideal S576x64 .f32} (hw : W A w) {b3 b4 b8 b9 b13 b14 : FVec Ideal S128x64 .f32} (hb3 : X A 3 b3) (hb4 : X A 4 b4) (hb8 : X A 8 b8) (hb9 : X A 9 b9) (hb13 : X A 13 b13) (hb14 : X A 14 b14) {sc cb : FVec Ideal S1x64 .f32} (hsc : SC A sc) (hcb : CB A cb) :
    Y A 1 4 (k0_pay52 w b3 b4 b8 b9 b13 b14 sc cb) := by
  intro n o
  have t0 : ∑ x : Fin 64, b3 (ix2 n x) * w (ix2 ⟨x.val, by omega⟩ o) = Spec.tap1 A n o 0 0 1 4 := tap_eq0 A 3 hb3 hw n o
  have t1 : ∑ x : Fin 64, b4 (ix2 n x) * w (ix2 ⟨64 + x.val, by omega⟩ o) = Spec.tap1 A n o 0 1 1 5 := tap_eq A 4 1 hb4 hw n o
  have t3 : ∑ x : Fin 64, b8 (ix2 n x) * w (ix2 ⟨192 + x.val, by omega⟩ o) = Spec.tap1 A n o 1 0 2 4 := tap_eq A 8 3 hb8 hw n o
  have t4 : ∑ x : Fin 64, b9 (ix2 n x) * w (ix2 ⟨256 + x.val, by omega⟩ o) = Spec.tap1 A n o 1 1 2 5 := tap_eq A 9 4 hb9 hw n o
  have t6 : ∑ x : Fin 64, b13 (ix2 n x) * w (ix2 ⟨384 + x.val, by omega⟩ o) = Spec.tap1 A n o 2 0 3 4 := tap_eq A 13 6 hb13 hw n o
  have t7 : ∑ x : Fin 64, b14 (ix2 n x) * w (ix2 ⟨448 + x.val, by omega⟩ o) = Spec.tap1 A n o 2 1 3 5 := tap_eq A 14 7 hb14 hw n o
  have hc : Spec.conv1 A n o 1 4 = Spec.tap1 A n o 0 0 1 4 + Spec.tap1 A n o 0 1 1 5 + Spec.tap1 A n o 1 0 2 4 + Spec.tap1 A n o 1 1 2 5 + Spec.tap1 A n o 2 0 3 4 + Spec.tap1 A n o 2 1 3 5 := by
    simp only [Spec.conv1, Nat.reduceAdd, tap1_row0, tap1_row6, tap1_col0, tap1_col6, zero_add, add_zero]
  rw [Spec.y, bnrelu_eq _ _ _ _ (fb1 o) (fg1 o), hc]
  pointwise [k0_pay52]
  simp only [t0, t1, t3, t4, t6, t7, hsc o, hcb o]

theorem y_2_0 {w : FVec Ideal S576x64 .f32} (hw : W A w) {b5 b6 b10 b11 b15 b16 : FVec Ideal S128x64 .f32} (hb5 : X A 5 b5) (hb6 : X A 6 b6) (hb10 : X A 10 b10) (hb11 : X A 11 b11) (hb15 : X A 15 b15) (hb16 : X A 16 b16) {sc cb : FVec Ideal S1x64 .f32} (hsc : SC A sc) (hcb : CB A cb) :
    Y A 2 0 (k0_pay54 sc cb (k0_pay53 w b5 b6 b10 b11 b15 b16)) := by
  intro n o
  have t1 : ∑ x : Fin 64, b5 (ix2 n x) * w (ix2 ⟨64 + x.val, by omega⟩ o) = Spec.tap1 A n o 0 1 2 1 := tap_eq A 5 1 hb5 hw n o
  have t2 : ∑ x : Fin 64, b6 (ix2 n x) * w (ix2 ⟨128 + x.val, by omega⟩ o) = Spec.tap1 A n o 0 2 2 2 := tap_eq A 6 2 hb6 hw n o
  have t4 : ∑ x : Fin 64, b10 (ix2 n x) * w (ix2 ⟨256 + x.val, by omega⟩ o) = Spec.tap1 A n o 1 1 3 1 := tap_eq A 10 4 hb10 hw n o
  have t5 : ∑ x : Fin 64, b11 (ix2 n x) * w (ix2 ⟨320 + x.val, by omega⟩ o) = Spec.tap1 A n o 1 2 3 2 := tap_eq A 11 5 hb11 hw n o
  have t7 : ∑ x : Fin 64, b15 (ix2 n x) * w (ix2 ⟨448 + x.val, by omega⟩ o) = Spec.tap1 A n o 2 1 4 1 := tap_eq A 15 7 hb15 hw n o
  have t8 : ∑ x : Fin 64, b16 (ix2 n x) * w (ix2 ⟨512 + x.val, by omega⟩ o) = Spec.tap1 A n o 2 2 4 2 := tap_eq A 16 8 hb16 hw n o
  have hc : Spec.conv1 A n o 2 0 = Spec.tap1 A n o 0 1 2 1 + Spec.tap1 A n o 0 2 2 2 + Spec.tap1 A n o 1 1 3 1 + Spec.tap1 A n o 1 2 3 2 + Spec.tap1 A n o 2 1 4 1 + Spec.tap1 A n o 2 2 4 2 := by
    simp only [Spec.conv1, Nat.reduceAdd, tap1_row0, tap1_row6, tap1_col0, tap1_col6, zero_add, add_zero]
  rw [Spec.y, bnrelu_eq _ _ _ _ (fb1 o) (fg1 o), hc]
  pointwise [k0_pay54, k0_pay53]
  simp only [t1, t2, t4, t5, t7, t8, hsc o, hcb o]

theorem y_2_1 {w : FVec Ideal S576x64 .f32} (hw : W A w) {b5 b6 b7 b10 b11 b12 b15 b16 b17 : FVec Ideal S128x64 .f32} (hb5 : X A 5 b5) (hb6 : X A 6 b6) (hb7 : X A 7 b7) (hb10 : X A 10 b10) (hb11 : X A 11 b11) (hb12 : X A 12 b12) (hb15 : X A 15 b15) (hb16 : X A 16 b16) (hb17 : X A 17 b17) {sc cb : FVec Ideal S1x64 .f32} (hsc : SC A sc) (hcb : CB A cb) :
    Y A 2 1 (k0_pay55 w b5 b6 b7 b10 b11 b12 b15 b16 b17 sc cb) := by
  intro n o
  have t0 : ∑ x : Fin 64, b5 (ix2 n x) * w (ix2 ⟨x.val, by omega⟩ o) = Spec.tap1 A n o 0 0 2 1 := tap_eq0 A 5 hb5 hw n o
  have t1 : ∑ x : Fin 64, b6 (ix2 n x) * w (ix2 ⟨64 + x.val, by omega⟩ o) = Spec.tap1 A n o 0 1 2 2 := tap_eq A 6 1 hb6 hw n o
  have t2 : ∑ x : Fin 64, b7 (ix2 n x) * w (ix2 ⟨128 + x.val, by omega⟩ o) = Spec.tap1 A n o 0 2 2 3 := tap_eq A 7 2 hb7 hw n o
  have t3 : ∑ x : Fin 64, b10 (ix2 n x) * w (ix2 ⟨192 + x.val, by omega⟩ o) = Spec.tap1 A n o 1 0 3 1 := tap_eq A 10 3 hb10 hw n o
  have t4 : ∑ x : Fin 64, b11 (ix2 n x) * w (ix2 ⟨256 + x.val, by omega⟩ o) = Spec.tap1 A n o 1 1 3 2 := tap_eq A 11 4 hb11 hw n o
  have t5 : ∑ x : Fin 64, b12 (ix2 n x) * w (ix2 ⟨320 + x.val, by omega⟩ o) = Spec.tap1 A n o 1 2 3 3 := tap_eq A 12 5 hb12 hw n o
  have t6 : ∑ x : Fin 64, b15 (ix2 n x) * w (ix2 ⟨384 + x.val, by omega⟩ o) = Spec.tap1 A n o 2 0 4 1 := tap_eq A 15 6 hb15 hw n o
  have t7 : ∑ x : Fin 64, b16 (ix2 n x) * w (ix2 ⟨448 + x.val, by omega⟩ o) = Spec.tap1 A n o 2 1 4 2 := tap_eq A 16 7 hb16 hw n o
  have t8 : ∑ x : Fin 64, b17 (ix2 n x) * w (ix2 ⟨512 + x.val, by omega⟩ o) = Spec.tap1 A n o 2 2 4 3 := tap_eq A 17 8 hb17 hw n o
  have hc : Spec.conv1 A n o 2 1 = Spec.tap1 A n o 0 0 2 1 + Spec.tap1 A n o 0 1 2 2 + Spec.tap1 A n o 0 2 2 3 + Spec.tap1 A n o 1 0 3 1 + Spec.tap1 A n o 1 1 3 2 + Spec.tap1 A n o 1 2 3 3 + Spec.tap1 A n o 2 0 4 1 + Spec.tap1 A n o 2 1 4 2 + Spec.tap1 A n o 2 2 4 3 := by
    simp only [Spec.conv1, Nat.reduceAdd, tap1_row0, tap1_row6, tap1_col0, tap1_col6, zero_add, add_zero]
  rw [Spec.y, bnrelu_eq _ _ _ _ (fb1 o) (fg1 o), hc]
  pointwise [k0_pay55]
  simp only [t0, t1, t2, t3, t4, t5, t6, t7, t8, hsc o, hcb o]

theorem y_2_2 {w : FVec Ideal S576x64 .f32} (hw : W A w) {b6 b7 b8 b11 b12 b13 b16 b17 b18 : FVec Ideal S128x64 .f32} (hb6 : X A 6 b6) (hb7 : X A 7 b7) (hb8 : X A 8 b8) (hb11 : X A 11 b11) (hb12 : X A 12 b12) (hb13 : X A 13 b13) (hb16 : X A 16 b16) (hb17 : X A 17 b17) (hb18 : X A 18 b18) {sc cb : FVec Ideal S1x64 .f32} (hsc : SC A sc) (hcb : CB A cb) :
    Y A 2 2 (k0_pay57 w b11 b12 b13 b16 b17 b18 sc cb (k0_pay56 w b6 b7 b8)) := by
  intro n o
  have t0 : ∑ x : Fin 64, b6 (ix2 n x) * w (ix2 ⟨x.val, by omega⟩ o) = Spec.tap1 A n o 0 0 2 2 := tap_eq0 A 6 hb6 hw n o
  have t1 : ∑ x : Fin 64, b7 (ix2 n x) * w (ix2 ⟨64 + x.val, by omega⟩ o) = Spec.tap1 A n o 0 1 2 3 := tap_eq A 7 1 hb7 hw n o
  have t2 : ∑ x : Fin 64, b8 (ix2 n x) * w (ix2 ⟨128 + x.val, by omega⟩ o) = Spec.tap1 A n o 0 2 2 4 := tap_eq A 8 2 hb8 hw n o
  have t3 : ∑ x : Fin 64, b11 (ix2 n x) * w (ix2 ⟨192 + x.val, by omega⟩ o) = Spec.tap1 A n o 1 0 3 2 := tap_eq A 11 3 hb11 hw n o
  have t4 : ∑ x : Fin 64, b12 (ix2 n x) * w (ix2 ⟨256 + x.val, by omega⟩ o) = Spec.tap1 A n o 1 1 3 3 := tap_eq A 12 4 hb12 hw n o
  have t5 : ∑ x : Fin 64, b13 (ix2 n x) * w (ix2 ⟨320 + x.val, by omega⟩ o) = Spec.tap1 A n o 1 2 3 4 := tap_eq A 13 5 hb13 hw n o
  have t6 : ∑ x : Fin 64, b16 (ix2 n x) * w (ix2 ⟨384 + x.val, by omega⟩ o) = Spec.tap1 A n o 2 0 4 2 := tap_eq A 16 6 hb16 hw n o
  have t7 : ∑ x : Fin 64, b17 (ix2 n x) * w (ix2 ⟨448 + x.val, by omega⟩ o) = Spec.tap1 A n o 2 1 4 3 := tap_eq A 17 7 hb17 hw n o
  have t8 : ∑ x : Fin 64, b18 (ix2 n x) * w (ix2 ⟨512 + x.val, by omega⟩ o) = Spec.tap1 A n o 2 2 4 4 := tap_eq A 18 8 hb18 hw n o
  have hc : Spec.conv1 A n o 2 2 = Spec.tap1 A n o 0 0 2 2 + Spec.tap1 A n o 0 1 2 3 + Spec.tap1 A n o 0 2 2 4 + Spec.tap1 A n o 1 0 3 2 + Spec.tap1 A n o 1 1 3 3 + Spec.tap1 A n o 1 2 3 4 + Spec.tap1 A n o 2 0 4 2 + Spec.tap1 A n o 2 1 4 3 + Spec.tap1 A n o 2 2 4 4 := by
    simp only [Spec.conv1, Nat.reduceAdd, tap1_row0, tap1_row6, tap1_col0, tap1_col6, zero_add, add_zero]
  rw [Spec.y, bnrelu_eq _ _ _ _ (fb1 o) (fg1 o), hc]
  pointwise [k0_pay57, k0_pay56]
  simp only [t0, t1, t2, t3, t4, t5, t6, t7, t8, hsc o, hcb o]

theorem y_2_3 {w : FVec Ideal S576x64 .f32} (hw : W A w) {b7 b8 b9 b12 b13 b14 b17 b18 b19 : FVec Ideal S128x64 .f32} (hb7 : X A 7 b7) (hb8 : X A 8 b8) (hb9 : X A 9 b9) (hb12 : X A 12 b12) (hb13 : X A 13 b13) (hb14 : X A 14 b14) (hb17 : X A 17 b17) (hb18 : X A 18 b18) (hb19 : X A 19 b19) {sc cb : FVec Ideal S1x64 .f32} (hsc : SC A sc) (hcb : CB A cb) :
    Y A 2 3 (k0_pay60 w b18 b19 sc cb (k0_pay58 w b7 b8 b9 b12 b13 b14 b17) (k0_pay59 w) (constant S128x64 FTy.f32 0#32)) := by
  intro n o
  have t0 : ∑ x : Fin 64, b7 (ix2 n x) * w (ix2 ⟨x.val, by omega⟩ o) = Spec.tap1 A n o 0 0 2 3 := tap_eq0 A 7 hb7 hw n o
  have t1 : ∑ x : Fin 64, b8 (ix2 n x) * w (ix2 ⟨64 + x.val, by omega⟩ o) = Spec.tap1 A n o 0 1 2 4 := tap_eq A 8 1 hb8 hw n o
  have t2 : ∑ x : Fin 64, b9 (ix2 n x) * w (ix2 ⟨128 + x.val, by omega⟩ o) = Spec.tap1 A n o 0 2 2 5 := tap_eq A 9 2 hb9 hw n o
  have t3 : ∑ x : Fin 64, b12 (ix2 n x) * w (ix2 ⟨192 + x.val, by omega⟩ o) = Spec.tap1 A n o 1 0 3 3 := tap_eq A 12 3 hb12 hw n o
  have t4 : ∑ x : Fin 64, b13 (ix2 n x) * w (ix2 ⟨256 + x.val, by omega⟩ o) = Spec.tap1 A n o 1 1 3 4 := tap_eq A 13 4 hb13 hw n o
  have t5 : ∑ x : Fin 64, b14 (ix2 n x) * w (ix2 ⟨320 + x.val, by omega⟩ o) = Spec.tap1 A n o 1 2 3 5 := tap_eq A 14 5 hb14 hw n o
  have t6 : ∑ x : Fin 64, b17 (ix2 n x) * w (ix2 ⟨384 + x.val, by omega⟩ o) = Spec.tap1 A n o 2 0 4 3 := tap_eq A 17 6 hb17 hw n o
  have t7 : ∑ x : Fin 64, b18 (ix2 n x) * w (ix2 ⟨448 + x.val, by omega⟩ o) = Spec.tap1 A n o 2 1 4 4 := tap_eq A 18 7 hb18 hw n o
  have t8 : ∑ x : Fin 64, b19 (ix2 n x) * w (ix2 ⟨512 + x.val, by omega⟩ o) = Spec.tap1 A n o 2 2 4 5 := tap_eq A 19 8 hb19 hw n o
  have hc : Spec.conv1 A n o 2 3 = Spec.tap1 A n o 0 0 2 3 + Spec.tap1 A n o 0 1 2 4 + Spec.tap1 A n o 0 2 2 5 + Spec.tap1 A n o 1 0 3 3 + Spec.tap1 A n o 1 1 3 4 + Spec.tap1 A n o 1 2 3 5 + Spec.tap1 A n o 2 0 4 3 + Spec.tap1 A n o 2 1 4 4 + Spec.tap1 A n o 2 2 4 5 := by
    simp only [Spec.conv1, Nat.reduceAdd, tap1_row0, tap1_row6, tap1_col0, tap1_col6, zero_add, add_zero]
  rw [Spec.y, bnrelu_eq _ _ _ _ (fb1 o) (fg1 o), hc]
  pointwise [k0_pay60, k0_pay58, k0_pay59]
  simp only [t0, t1, t2, t3, t4, t5, t6, t7, t8, hsc o, hcb o]

theorem y_2_4 {w : FVec Ideal S576x64 .f32} (hw : W A w) {b8 b9 b13 b14 b18 b19 : FVec Ideal S128x64 .f32} (hb8 : X A 8 b8) (hb9 : X A 9 b9) (hb13 : X A 13 b13) (hb14 : X A 14 b14) (hb18 : X A 18 b18) (hb19 : X A 19 b19) {sc cb : FVec Ideal S1x64 .f32} (hsc : SC A sc) (hcb : CB A cb) :
    Y A 2 4 (k0_pay61 w b8 b9 b13 b14 b18 b19 sc cb) := by
  intro n o
  have t0 : ∑ x : Fin 64, b8 (ix2 n x) * w (ix2 ⟨x.val, by omega⟩ o) = Spec.tap1 A n o 0 0 2 4 := tap_eq0 A 8 hb8 hw n o
  have t1 : ∑ x : Fin 64, b9 (ix2 n x) * w (ix2 ⟨64 + x.val, by omega⟩ o) = Spec.tap1 A n o 0 1 2 5 := tap_eq A 9 1 hb9 hw n o
  have t3 : ∑ x : Fin 64, b13 (ix2 n x) * w (ix2 ⟨192 + x.val, by omega⟩ o) = Spec.tap1 A n o 1 0 3 4 := tap_eq A 13 3 hb13 hw n o
  have t4 : ∑ x : Fin 64, b14 (ix2 n x) * w (ix2 ⟨256 + x.val, by omega⟩ o) = Spec.tap1 A n o 1 1 3 5 := tap_eq A 14 4 hb14 hw n o
  have t6 : ∑ x : Fin 64, b18 (ix2 n x) * w (ix2 ⟨384 + x.val, by omega⟩ o) = Spec.tap1 A n o 2 0 4 4 := tap_eq A 18 6 hb18 hw n o
  have t7 : ∑ x : Fin 64, b19 (ix2 n x) * w (ix2 ⟨448 + x.val, by omega⟩ o) = Spec.tap1 A n o 2 1 4 5 := tap_eq A 19 7 hb19 hw n o
  have hc : Spec.conv1 A n o 2 4 = Spec.tap1 A n o 0 0 2 4 + Spec.tap1 A n o 0 1 2 5 + Spec.tap1 A n o 1 0 3 4 + Spec.tap1 A n o 1 1 3 5 + Spec.tap1 A n o 2 0 4 4 + Spec.tap1 A n o 2 1 4 5 := by
    simp only [Spec.conv1, Nat.reduceAdd, tap1_row0, tap1_row6, tap1_col0, tap1_col6, zero_add, add_zero]
  rw [Spec.y, bnrelu_eq _ _ _ _ (fb1 o) (fg1 o), hc]
  pointwise [k0_pay61]
  simp only [t0, t1, t3, t4, t6, t7, hsc o, hcb o]

theorem y_3_0 {w : FVec Ideal S576x64 .f32} (hw : W A w) {b10 b11 b15 b16 b20 b21 : FVec Ideal S128x64 .f32} (hb10 : X A 10 b10) (hb11 : X A 11 b11) (hb15 : X A 15 b15) (hb16 : X A 16 b16) (hb20 : X A 20 b20) (hb21 : X A 21 b21) {sc cb : FVec Ideal S1x64 .f32} (hsc : SC A sc) (hcb : CB A cb) :
    Y A 3 0 (k0_pay64 w b20 b21 sc cb (k0_pay62 w b10 b11 b15 b16) (k0_pay63 w) (constant S128x64 FTy.f32 0#32)) := by
  intro n o
  have t1 : ∑ x : Fin 64, b10 (ix2 n x) * w (ix2 ⟨64 + x.val, by omega⟩ o) = Spec.tap1 A n o 0 1 3 1 := tap_eq A 10 1 hb10 hw n o
  have t2 : ∑ x : Fin 64, b11 (ix2 n x) * w (ix2 ⟨128 + x.val, by omega⟩ o) = Spec.tap1 A n o 0 2 3 2 := tap_eq A 11 2 hb11 hw n o
  have t4 : ∑ x : Fin 64, b15 (ix2 n x) * w (ix2 ⟨256 + x.val, by omega⟩ o) = Spec.tap1 A n o 1 1 4 1 := tap_eq A 15 4 hb15 hw n o
  have t5 : ∑ x : Fin 64, b16 (ix2 n x) * w (ix2 ⟨320 + x.val, by omega⟩ o) = Spec.tap1 A n o 1 2 4 2 := tap_eq A 16 5 hb16 hw n o
  have t7 : ∑ x : Fin 64, b20 (ix2 n x) * w (ix2 ⟨448 + x.val, by omega⟩ o) = Spec.tap1 A n o 2 1 5 1 := tap_eq A 20 7 hb20 hw n o
  have t8 : ∑ x : Fin 64, b21 (ix2 n x) * w (ix2 ⟨512 + x.val, by omega⟩ o) = Spec.tap1 A n o 2 2 5 2 := tap_eq A 21 8 hb21 hw n o
  have hc : Spec.conv1 A n o 3 0 = Spec.tap1 A n o 0 1 3 1 + Spec.tap1 A n o 0 2 3 2 + Spec.tap1 A n o 1 1 4 1 + Spec.tap1 A n o 1 2 4 2 + Spec.tap1 A n o 2 1 5 1 + Spec.tap1 A n o 2 2 5 2 := by
    simp only [Spec.conv1, Nat.reduceAdd, tap1_row0, tap1_row6, tap1_col0, tap1_col6, zero_add, add_zero]
  rw [Spec.y, bnrelu_eq _ _ _ _ (fb1 o) (fg1 o), hc]
  pointwise [k0_pay64, k0_pay62, k0_pay63]
  simp only [t1, t2, t4, t5, t7, t8, hsc o, hcb o]

theorem y_3_1 {w : FVec Ideal S576x64 .f32} (hw : W A w) {b10 b11 b12 b15 b16 b17 b20 b21 b22 : FVec Ideal S128x64 .f32} (hb10 : X A 10 b10) (hb11 : X A 11 b11) (hb12 : X A 12 b12) (hb15 : X A 15 b15) (hb16 : X A 16 b16) (hb17 : X A 17 b17) (hb20 : X A 20 b20) (hb21 : X A 21 b21) (hb22 : X A 22 b22) {sc cb : FVec Ideal S1x64 .f32} (hsc : SC A sc) (hcb : CB A cb) :
    Y A 3 1 (k0_pay65 w b10 b11 b12 b15 b16 b17 b20 b21 b22 sc cb) := by
  intro n o
  have t0 : ∑ x : Fin 64, b10 (ix2 n x) * w (ix2 ⟨x.val, by omega⟩ o) = Spec.tap1 A n o 0 0 3 1 := tap_eq0 A 10 hb10 hw n o
  have t1 : ∑ x : Fin 64, b11 (ix2 n x) * w (ix2 ⟨64 + x.val, by omega⟩ o) = Spec.tap1 A n o 0 1 3 2 := tap_eq A 11 1 hb11 hw n o
  have t2 : ∑ x : Fin 64, b12 (ix2 n x) * w (ix2 ⟨128 + x.val, by omega⟩ o) = Spec.tap1 A n o 0 2 3 3 := tap_eq A 12 2 hb12 hw n o
  have t3 : ∑ x : Fin 64, b15 (ix2 n x) * w (ix2 ⟨192 + x.val, by omega⟩ o) = Spec.tap1 A n o 1 0 4 1 := tap_eq A 15 3 hb15 hw n o
  have t4 : ∑ x : Fin 64, b16 (ix2 n x) * w (ix2 ⟨256 + x.val, by omega⟩ o) = Spec.tap1 A n o 1 1 4 2 := tap_eq A 16 4 hb16 hw n o
  have t5 : ∑ x : Fin 64, b17 (ix2 n x) * w (ix2 ⟨320 + x.val, by omega⟩ o) = Spec.tap1 A n o 1 2 4 3 := tap_eq A 17 5 hb17 hw n o
  have t6 : ∑ x : Fin 64, b20 (ix2 n x) * w (ix2 ⟨384 + x.val, by omega⟩ o) = Spec.tap1 A n o 2 0 5 1 := tap_eq A 20 6 hb20 hw n o
  have t7 : ∑ x : Fin 64, b21 (ix2 n x) * w (ix2 ⟨448 + x.val, by omega⟩ o) = Spec.tap1 A n o 2 1 5 2 := tap_eq A 21 7 hb21 hw n o
  have t8 : ∑ x : Fin 64, b22 (ix2 n x) * w (ix2 ⟨512 + x.val, by omega⟩ o) = Spec.tap1 A n o 2 2 5 3 := tap_eq A 22 8 hb22 hw n o
  have hc : Spec.conv1 A n o 3 1 = Spec.tap1 A n o 0 0 3 1 + Spec.tap1 A n o 0 1 3 2 + Spec.tap1 A n o 0 2 3 3 + Spec.tap1 A n o 1 0 4 1 + Spec.tap1 A n o 1 1 4 2 + Spec.tap1 A n o 1 2 4 3 + Spec.tap1 A n o 2 0 5 1 + Spec.tap1 A n o 2 1 5 2 + Spec.tap1 A n o 2 2 5 3 := by
    simp only [Spec.conv1, Nat.reduceAdd, tap1_row0, tap1_row6, tap1_col0, tap1_col6, zero_add, add_zero]
  rw [Spec.y, bnrelu_eq _ _ _ _ (fb1 o) (fg1 o), hc]
  pointwise [k0_pay65]
  simp only [t0, t1, t2, t3, t4, t5, t6, t7, t8, hsc o, hcb o]

theorem y_3_2 {w : FVec Ideal S576x64 .f32} (hw : W A w) {b11 b12 b13 b16 b17 b18 b21 b22 b23 : FVec Ideal S128x64 .f32} (hb11 : X A 11 b11) (hb12 : X A 12 b12) (hb13 : X A 13 b13) (hb16 : X A 16 b16) (hb17 : X A 17 b17) (hb18 : X A 18 b18) (hb21 : X A 21 b21) (hb22 : X A 22 b22) (hb23 : X A 23 b23) {sc cb : FVec Ideal S1x64 .f32} (hsc : SC A sc) (hcb : CB A cb) :
    Y A 3 2 (k0_pay68 w b12 b13 b16 b17 b18 b21 b22 b23 sc cb (k0_pay66 w b11) (k0_pay67 w) (constant S128x64 FTy.f32 0#32)) := by
  intro n o
  have t0 : ∑ x : Fin 64, b11 (ix2 n x) * w (ix2 ⟨x.val, by omega⟩ o) = Spec.tap1 A n o 0 0 3 2 := tap_eq0 A 11 hb11 hw n o
  have t1 : ∑ x : Fin 64, b12 (ix2 n x) * w (ix2 ⟨64 + x.val, by omega⟩ o) = Spec.tap1 A n o 0 1 3 3 := tap_eq A 12 1 hb12 hw n o
  have t2 : ∑ x : Fin 64, b13 (ix2 n x) * w (ix2 ⟨128 + x.val, by omega⟩ o) = Spec.tap1 A n o 0 2 3 4 := tap_eq A 13 2 hb13 hw n o
  have t3 : ∑ x : Fin 64, b16 (ix2 n x) * w (ix2 ⟨192 + x.val, by omega⟩ o) = Spec.tap1 A n o 1 0 4 2 := tap_eq A 16 3 hb16 hw n o
  have t4 : ∑ x : Fin 64, b17 (ix2 n x) * w (ix2 ⟨256 + x.val, by omega⟩ o) = Spec.tap1 A n o 1 1 4 3 := tap_eq A 17 4 hb17 hw n o
  have t5 : ∑ x : Fin 64, b18 (ix2 n x) * w (ix2 ⟨320 + x.val, by omega⟩ o) = Spec.tap1 A n o 1 2 4 4 := tap_eq A 18 5 hb18 hw n o
  have t6 : ∑ x : Fin 64, b21 (ix2 n x) * w (ix2 ⟨384 + x.val, by omega⟩ o) = Spec.tap1 A n o 2 0 5 2 := tap_eq A 21 6 hb21 hw n o
  have t7 : ∑ x : Fin 64, b22 (ix2 n x) * w (ix2 ⟨448 + x.val, by omega⟩ o) = Spec.tap1 A n o 2 1 5 3 := tap_eq A 22 7 hb22 hw n o
  have t8 : ∑ x : Fin 64, b23 (ix2 n x) * w (ix2 ⟨512 + x.val, by omega⟩ o) = Spec.tap1 A n o 2 2 5 4 := tap_eq A 23 8 hb23 hw n o
  have hc : Spec.conv1 A n o 3 2 = Spec.tap1 A n o 0 0 3 2 + Spec.tap1 A n o 0 1 3 3 + Spec.tap1 A n o 0 2 3 4 + Spec.tap1 A n o 1 0 4 2 + Spec.tap1 A n o 1 1 4 3 + Spec.tap1 A n o 1 2 4 4 + Spec.tap1 A n o 2 0 5 2 + Spec.tap1 A n o 2 1 5 3 + Spec.tap1 A n o 2 2 5 4 := by
    simp only [Spec.conv1, Nat.reduceAdd, tap1_row0, tap1_row6, tap1_col0, tap1_col6, zero_add, add_zero]
  rw [Spec.y, bnrelu_eq _ _ _ _ (fb1 o) (fg1 o), hc]
  pointwise [k0_pay68, k0_pay66, k0_pay67]
  simp only [t0, t1, t2, t3, t4, t5, t6, t7, t8, hsc o, hcb o]

theorem y_3_3 {w : FVec Ideal S576x64 .f32} (hw : W A w) {b12 b13 b14 b17 b18 b19 b22 b23 b24 : FVec Ideal S128x64 .f32} (hb12 : X A 12 b12) (hb13 : X A 13 b13) (hb14 : X A 14 b14) (hb17 : X A 17 b17) (hb18 : X A 18 b18) (hb19 : X A 19 b19) (hb22 : X A 22 b22) (hb23 : X A 23 b23) (hb24 : X A 24 b24) {sc cb : FVec Ideal S1x64 .f32} (hsc : SC A sc) (hcb : CB A cb) :
    Y A 3 3 (k0_pay70 w b22 b23 b24 sc cb (k0_pay69 w b12 b13 b14 b17 b18 b19)) := by
  intro n o
  have t0 : ∑ x : Fin 64, b12 (ix2 n x) * w (ix2 ⟨x.val, by omega⟩ o) = Spec.tap1 A n o 0 0 3 3 := tap_eq0 A 12 hb12 hw n o
  have t1 : ∑ x : Fin 64, b13 (ix2 n x) * w (ix2 ⟨64 + x.val, by omega⟩ o) = Spec.tap1 A n o 0 1 3 4 := tap_eq A 13 1 hb13 hw n o
  have t2 : ∑ x : Fin 64, b14 (ix2 n x) * w (ix2 ⟨128 + x.val, by omega⟩ o) = Spec.tap1 A n o 0 2 3 5 := tap_eq A 14 2 hb14 hw n o
  have t3 : ∑ x : Fin 64, b17 (ix2 n x) * w (ix2 ⟨192 + x.val, by omega⟩ o) = Spec.tap1 A n o 1 0 4 3 := tap_eq A 17 3 hb17 hw n o
  have t4 : ∑ x : Fin 64, b18 (ix2 n x) * w (ix2 ⟨256 + x.val, by omega⟩ o) = Spec.tap1 A n o 1 1 4 4 := tap_eq A 18 4 hb18 hw n o
  have t5 : ∑ x : Fin 64, b19 (ix2 n x) * w (ix2 ⟨320 + x.val, by omega⟩ o) = Spec.tap1 A n o 1 2 4 5 := tap_eq A 19 5 hb19 hw n o
  have t6 : ∑ x : Fin 64, b22 (ix2 n x) * w (ix2 ⟨384 + x.val, by omega⟩ o) = Spec.tap1 A n o 2 0 5 3 := tap_eq A 22 6 hb22 hw n o
  have t7 : ∑ x : Fin 64, b23 (ix2 n x) * w (ix2 ⟨448 + x.val, by omega⟩ o) = Spec.tap1 A n o 2 1 5 4 := tap_eq A 23 7 hb23 hw n o
  have t8 : ∑ x : Fin 64, b24 (ix2 n x) * w (ix2 ⟨512 + x.val, by omega⟩ o) = Spec.tap1 A n o 2 2 5 5 := tap_eq A 24 8 hb24 hw n o
  have hc : Spec.conv1 A n o 3 3 = Spec.tap1 A n o 0 0 3 3 + Spec.tap1 A n o 0 1 3 4 + Spec.tap1 A n o 0 2 3 5 + Spec.tap1 A n o 1 0 4 3 + Spec.tap1 A n o 1 1 4 4 + Spec.tap1 A n o 1 2 4 5 + Spec.tap1 A n o 2 0 5 3 + Spec.tap1 A n o 2 1 5 4 + Spec.tap1 A n o 2 2 5 5 := by
    simp only [Spec.conv1, Nat.reduceAdd, tap1_row0, tap1_row6, tap1_col0, tap1_col6, zero_add, add_zero]
  rw [Spec.y, bnrelu_eq _ _ _ _ (fb1 o) (fg1 o), hc]
  pointwise [k0_pay70, k0_pay69]
  simp only [t0, t1, t2, t3, t4, t5, t6, t7, t8, hsc o, hcb o]

theorem y_3_4 {w : FVec Ideal S576x64 .f32} (hw : W A w) {b13 b14 b18 b19 b23 b24 : FVec Ideal S128x64 .f32} (hb13 : X A 13 b13) (hb14 : X A 14 b14) (hb18 : X A 18 b18) (hb19 : X A 19 b19) (hb23 : X A 23 b23) (hb24 : X A 24 b24) {sc cb : FVec Ideal S1x64 .f32} (hsc : SC A sc) (hcb : CB A cb) :
    Y A 3 4 (k0_pay71 w b13 b14 b18 b19 b23 b24 sc cb) := by
  intro n o
  have t0 : ∑ x : Fin 64, b13 (ix2 n x) * w (ix2 ⟨x.val, by omega⟩ o) = Spec.tap1 A n o 0 0 3 4 := tap_eq0 A 13 hb13 hw n o
  have t1 : ∑ x : Fin 64, b14 (ix2 n x) * w (ix2 ⟨64 + x.val, by omega⟩ o) = Spec.tap1 A n o 0 1 3 5 := tap_eq A 14 1 hb14 hw n o
  have t3 : ∑ x : Fin 64, b18 (ix2 n x) * w (ix2 ⟨192 + x.val, by omega⟩ o) = Spec.tap1 A n o 1 0 4 4 := tap_eq A 18 3 hb18 hw n o
  have t4 : ∑ x : Fin 64, b19 (ix2 n x) * w (ix2 ⟨256 + x.val, by omega⟩ o) = Spec.tap1 A n o 1 1 4 5 := tap_eq A 19 4 hb19 hw n o
  have t6 : ∑ x : Fin 64, b23 (ix2 n x) * w (ix2 ⟨384 + x.val, by omega⟩ o) = Spec.tap1 A n o 2 0 5 4 := tap_eq A 23 6 hb23 hw n o
  have t7 : ∑ x : Fin 64, b24 (ix2 n x) * w (ix2 ⟨448 + x.val, by omega⟩ o) = Spec.tap1 A n o 2 1 5 5 := tap_eq A 24 7 hb24 hw n o
  have hc : Spec.conv1 A n o 3 4 = Spec.tap1 A n o 0 0 3 4 + Spec.tap1 A n o 0 1 3 5 + Spec.tap1 A n o 1 0 4 4 + Spec.tap1 A n o 1 1 4 5 + Spec.tap1 A n o 2 0 5 4 + Spec.tap1 A n o 2 1 5 5 := by
    simp only [Spec.conv1, Nat.reduceAdd, tap1_row0, tap1_row6, tap1_col0, tap1_col6, zero_add, add_zero]
  rw [Spec.y, bnrelu_eq _ _ _ _ (fb1 o) (fg1 o), hc]
  pointwise [k0_pay71]
  simp only [t0, t1, t3, t4, t6, t7, hsc o, hcb o]

theorem y_4_0 {w : FVec Ideal S576x64 .f32} (hw : W A w) {b15 b16 b20 b21 : FVec Ideal S128x64 .f32} (hb15 : X A 15 b15) (hb16 : X A 16 b16) (hb20 : X A 20 b20) (hb21 : X A 21 b21) {sc cb : FVec Ideal S1x64 .f32} (hsc : SC A sc) (hcb : CB A cb) :
    Y A 4 0 (k0_pay73 w b21 sc cb (k0_pay72 w b15 b16 b20)) := by
  intro n o
  have t1 : ∑ x : Fin 64, b15 (ix2 n x) * w (ix2 ⟨64 + x.val, by omega⟩ o) = Spec.tap1 A n o 0 1 4 1 := tap_eq A 15 1 hb15 hw n o
  have t2 : ∑ x : Fin 64, b16 (ix2 n x) * w (ix2 ⟨128 + x.val, by omega⟩ o) = Spec.tap1 A n o 0 2 4 2 := tap_eq A 16 2 hb16 hw n o
  have t4 : ∑ x : Fin 64, b20 (ix2 n x) * w (ix2 ⟨256 + x.val, by omega⟩ o) = Spec.tap1 A n o 1 1 5 1 := tap_eq A 20 4 hb20 hw n o
  have t5 : ∑ x : Fin 64, b21 (ix2 n x) * w (ix2 ⟨320 + x.val, by omega⟩ o) = Spec.tap1 A n o 1 2 5 2 := tap_eq A 21 5 hb21 hw n o
  have hc : Spec.conv1 A n o 4 0 = Spec.tap1 A n o 0 1 4 1 + Spec.tap1 A n o 0 2 4 2 + Spec.tap1 A n o 1 1 5 1 + Spec.tap1 A n o 1 2 5 2 := by
    simp only [Spec.conv1, Nat.reduceAdd, tap1_row0, tap1_row6, tap1_col0, tap1_col6, zero_add, add_zero]
  rw [Spec.y, bnrelu_eq _ _ _ _ (fb1 o) (fg1 o), hc]
  pointwise [k0_pay73, k0_pay72]
  simp only [t1, t2, t4, t5, hsc o, hcb o]

theorem y_4_1 {w : FVec Ideal S576x64 .f32} (hw : W A w) {b15 b16 b17 b20 b21 b22 : FVec Ideal S128x64 .f32} (hb15 : X A 15 b15) (hb16 : X A 16 b16) (hb17 : X A 17 b17) (hb20 : X A 20 b20) (hb21 : X A 21 b21) (hb22 : X A 22 b22) {sc cb : FVec Ideal S1x64 .f32} (hsc : SC A sc) (hcb : CB A cb) :
    Y A 4 1 (k0_pay74 w b15 b16 b17 b20 b21 b22 sc cb) := by
  intro n o
  have t0 : ∑ x : Fin 64, b15 (ix2 n x) * w (ix2 ⟨x.val, by omega⟩ o) = Spec.tap1 A n o 0 0 4 1 := tap_eq0 A 15 hb15 hw n o
  have t1 : ∑ x : Fin 64, b16 (ix2 n x) * w (ix2 ⟨64 + x.val, by omega⟩ o) = Spec.tap1 A n o 0 1 4 2 := tap_eq A 16 1 hb16 hw n o
  have t2 : ∑ x : Fin 64, b17 (ix2 n x) * w (ix2 ⟨128 + x.val, by omega⟩ o) = Spec.tap1 A n o 0 2 4 3 := tap_eq A 17 2 hb17 hw n o
  have t3 : ∑ x : Fin 64, b20 (ix2 n x) * w (ix2 ⟨192 + x.val, by omega⟩ o) = Spec.tap1 A n o 1 0 5 1 := tap_eq A 20 3 hb20 hw n o
  have t4 : ∑ x : Fin 64, b21 (ix2 n x) * w (ix2 ⟨256 + x.val, by omega⟩ o) = Spec.tap1 A n o 1 1 5 2 := tap_eq A 21 4 hb21 hw n o
  have t5 : ∑ x : Fin 64, b22 (ix2 n x) * w (ix2 ⟨320 + x.val, by omega⟩ o) = Spec.tap1 A n o 1 2 5 3 := tap_eq A 22 5 hb22 hw n o
  have hc : Spec.conv1 A n o 4 1 = Spec.tap1 A n o 0 0 4 1 + Spec.tap1 A n o 0 1 4 2 + Spec.tap1 A n o 0 2 4 3 + Spec.tap1 A n o 1 0 5 1 + Spec.tap1 A n o 1 1 5 2 + Spec.tap1 A n o 1 2 5 3 := by
    simp only [Spec.conv1, Nat.reduceAdd, tap1_row0, tap1_row6, tap1_col0, tap1_col6, zero_add, add_zero]
  rw [Spec.y, bnrelu_eq _ _ _ _ (fb1 o) (fg1 o), hc]
  pointwise [k0_pay74]
  simp only [t0, t1, t2, t3, t4, t5, hsc o, hcb o]

theorem y_4_2 {w : FVec Ideal S576x64 .f32} (hw : W A w) {b16 b17 b18 b21 b22 b23 : FVec Ideal S128x64 .f32} (hb16 : X A 16 b16) (hb17 : X A 17 b17) (hb18 : X A 18 b18) (hb21 : X A 21 b21) (hb22 : X A 22 b22) (hb23 : X A 23 b23) {sc cb : FVec Ideal S1x64 .f32} (hsc : SC A sc) (hcb : CB A cb) :
    Y A 4 2 (k0_pay76 w b23 sc cb (k0_pay75 w b16 b17 b18 b21 b22)) := by
  intro n o
  have t0 : ∑ x : Fin 64, b16 (ix2 n x) * w (ix2 ⟨x.val, by omega⟩ o) = Spec.tap1 A n o 0 0 4 2 := tap_eq0 A 16 hb16 hw n o
  have t1 : ∑ x : Fin 64, b17 (ix2 n x) * w (ix2 ⟨64 + x.val, by omega⟩ o) = Spec.tap1 A n o 0 1 4 3 := tap_eq A 17 1 hb17 hw n o
  have t2 : ∑ x : Fin 64, b18 (ix2 n x) * w (ix2 ⟨128 + x.val, by omega⟩ o) = Spec.tap1 A n o 0 2 4 4 := tap_eq A 18 2 hb18 hw n o
  have t3 : ∑ x : Fin 64, b21 (ix2 n x) * w (ix2 ⟨192 + x.val, by omega⟩ o) = Spec.tap1 A n o 1 0 5 2 := tap_eq A 21 3 hb21 hw n o
  have t4 : ∑ x : Fin 64, b22 (ix2 n x) * w (ix2 ⟨256 + x.val, by omega⟩ o) = Spec.tap1 A n o 1 1 5 3 := tap_eq A 22 4 hb22 hw n o
  have t5 : ∑ x : Fin 64, b23 (ix2 n x) * w (ix2 ⟨320 + x.val, by omega⟩ o) = Spec.tap1 A n o 1 2 5 4 := tap_eq A 23 5 hb23 hw n o
  have hc : Spec.conv1 A n o 4 2 = Spec.tap1 A n o 0 0 4 2 + Spec.tap1 A n o 0 1 4 3 + Spec.tap1 A n o 0 2 4 4 + Spec.tap1 A n o 1 0 5 2 + Spec.tap1 A n o 1 1 5 3 + Spec.tap1 A n o 1 2 5 4 := by
    simp only [Spec.conv1, Nat.reduceAdd, tap1_row0, tap1_row6, tap1_col0, tap1_col6, zero_add, add_zero]
  rw [Spec.y, bnrelu_eq _ _ _ _ (fb1 o) (fg1 o), hc]
  pointwise [k0_pay76, k0_pay75]
  simp only [t0, t1, t2, t3, t4, t5, hsc o, hcb o]

theorem y_4_3 {w : FVec Ideal S576x64 .f32} (hw : W A w) {b17 b18 b19 b22 b23 b24 : FVec Ideal S128x64 .f32} (hb17 : X A 17 b17) (hb18 : X A 18 b18) (hb19 : X A 19 b19) (hb22 : X A 22 b22) (hb23 : X A 23 b23) (hb24 : X A 24 b24) {sc cb : FVec Ideal S1x64 .f32} (hsc : SC A sc) (hcb : CB A cb) :
    Y A 4 3 (k0_pay77 w b17 b18 b19 b22 b23 b24 sc cb) := by
  intro n o
  have t0 : ∑ x : Fin 64, b17 (ix2 n x) * w (ix2 ⟨x.val, by omega⟩ o) = Spec.tap1 A n o 0 0 4 3 := tap_eq0 A 17 hb17 hw n o
  have t1 : ∑ x : Fin 64, b18 (ix2 n x) * w (ix2 ⟨64 + x.val, by omega⟩ o) = Spec.tap1 A n o 0 1 4 4 := tap_eq A 18 1 hb18 hw n o
  have t2 : ∑ x : Fin 64, b19 (ix2 n x) * w (ix2 ⟨128 + x.val, by omega⟩ o) = Spec.tap1 A n o 0 2 4 5 := tap_eq A 19 2 hb19 hw n o
  have t3 : ∑ x : Fin 64, b22 (ix2 n x) * w (ix2 ⟨192 + x.val, by omega⟩ o) = Spec.tap1 A n o 1 0 5 3 := tap_eq A 22 3 hb22 hw n o
  have t4 : ∑ x : Fin 64, b23 (ix2 n x) * w (ix2 ⟨256 + x.val, by omega⟩ o) = Spec.tap1 A n o 1 1 5 4 := tap_eq A 23 4 hb23 hw n o
  have t5 : ∑ x : Fin 64, b24 (ix2 n x) * w (ix2 ⟨320 + x.val, by omega⟩ o) = Spec.tap1 A n o 1 2 5 5 := tap_eq A 24 5 hb24 hw n o
  have hc : Spec.conv1 A n o 4 3 = Spec.tap1 A n o 0 0 4 3 + Spec.tap1 A n o 0 1 4 4 + Spec.tap1 A n o 0 2 4 5 + Spec.tap1 A n o 1 0 5 3 + Spec.tap1 A n o 1 1 5 4 + Spec.tap1 A n o 1 2 5 5 := by
    simp only [Spec.conv1, Nat.reduceAdd, tap1_row0, tap1_row6, tap1_col0, tap1_col6, zero_add, add_zero]
  rw [Spec.y, bnrelu_eq _ _ _ _ (fb1 o) (fg1 o), hc]
  pointwise [k0_pay77]
  simp only [t0, t1, t2, t3, t4, t5, hsc o, hcb o]

theorem y_4_4 {w : FVec Ideal S576x64 .f32} (hw : W A w) {b18 b19 b23 b24 : FVec Ideal S128x64 .f32} (hb18 : X A 18 b18) (hb19 : X A 19 b19) (hb23 : X A 23 b23) (hb24 : X A 24 b24) {sc cb : FVec Ideal S1x64 .f32} (hsc : SC A sc) (hcb : CB A cb) (n : Fin 128) (o : Fin 64) :
    max ((k0_pay78 w b18 b19 b23 b24 sc cb) (ix2 n o)) 0 = Spec.y A n o 4 4 := by
  have t0 : ∑ x : Fin 64, b18 (ix2 n x) * w (ix2 ⟨x.val, by omega⟩ o) = Spec.tap1 A n o 0 0 4 4 := tap_eq0 A 18 hb18 hw n o
  have t1 : ∑ x : Fin 64, b19 (ix2 n x) * w (ix2 ⟨64 + x.val, by omega⟩ o) = Spec.tap1 A n o 0 1 4 5 := tap_eq A 19 1 hb19 hw n o
  have t3 : ∑ x : Fin 64, b23 (ix2 n x) * w (ix2 ⟨192 + x.val, by omega⟩ o) = Spec.tap1 A n o 1 0 5 4 := tap_eq A 23 3 hb23 hw n o
  have t4 : ∑ x : Fin 64, b24 (ix2 n x) * w (ix2 ⟨256 + x.val, by omega⟩ o) = Spec.tap1 A n o 1 1 5 5 := tap_eq A 24 4 hb24 hw n o
  have hc : Spec.conv1 A n o 4 4 = Spec.tap1 A n o 0 0 4 4 + Spec.tap1 A n o 0 1 4 5 + Spec.tap1 A n o 1 0 5 4 + Spec.tap1 A n o 1 1 5 5 := by
    simp only [Spec.conv1, Nat.reduceAdd, tap1_row0, tap1_row6, tap1_col0, tap1_col6, zero_add, add_zero]
  rw [Spec.y, bnrelu_eq _ _ _ _ (fb1 o) (fg1 o), hc]
  pointwise [k0_pay78]
  simp only [t0, t1, t3, t4, hsc o, hcb o]

end Cert.K.Ker
-- ==== Proof.KerPool.lean ====
module

public import proofs.«01_k».proof.Proof.KerConv

/-! The first pool, the nine taps of the second convolution and its nine positions, as the kernel writes them. -/

@[expose] public section

set_option maxRecDepth 16384

noncomputable section

namespace Cert.K.Ker
open Cert.KernelIdeal Cert.KernelIdeal.Gen
open Idealize.ShloMosaic Idealize.ShloMosaic.TcCoe Idealize.SL.Sem

variable (A : Spec.Args)

theorem p_0_0 (n : Fin 128) (o : Fin 64) : Spec.p A n o 0 0 = Spec.y A n o 0 0 := by
  simp [Spec.p, Spec.ypad]

theorem p_0_1 (n : Fin 128) (o : Fin 64) : Spec.p A n o 0 1 = max (Spec.y A n o 0 1) (Spec.y A n o 0 2) := by
  simp [Spec.p, Spec.ypad]

theorem p_0_2 (n : Fin 128) (o : Fin 64) : Spec.p A n o 0 2 = max (Spec.y A n o 0 3) (Spec.y A n o 0 4) := by
  simp [Spec.p, Spec.ypad]

theorem p_1_0 (n : Fin 128) (o : Fin 64) : Spec.p A n o 1 0 = max (Spec.y A n o 1 0) (Spec.y A n o 2 0) := by
  simp [Spec.p, Spec.ypad]

theorem p_1_1 (n : Fin 128) (o : Fin 64) : Spec.p A n o 1 1 = max (max (max (Spec.y A n o 1 1) (Spec.y A n o 1 2)) (Spec.y A n o 2 1)) (Spec.y A n o 2 2) := by
  simp [Spec.p, Spec.ypad, max_assoc]

theorem p_1_2 (n : Fin 128) (o : Fin 64) : Spec.p A n o 1 2 = max (max (max (Spec.y A n o 1 3) (Spec.y A n o 1 4)) (Spec.y A n o 2 3)) (Spec.y A n o 2 4) := by
  simp [Spec.p, Spec.ypad, max_assoc]

theorem p_2_0 (n : Fin 128) (o : Fin 64) : Spec.p A n o 2 0 = max (Spec.y A n o 3 0) (Spec.y A n o 4 0) := by
  simp [Spec.p, Spec.ypad]

theorem p_2_1 (n : Fin 128) (o : Fin 64) : Spec.p A n o 2 1 = max (max (max (Spec.y A n o 3 1) (Spec.y A n o 3 2)) (Spec.y A n o 4 1)) (Spec.y A n o 4 2) := by
  simp [Spec.p, Spec.ypad, max_assoc]

theorem p_2_2 (n : Fin 128) (o : Fin 64) : Spec.p A n o 2 2 = max (max (max (Spec.y A n o 3 3) (Spec.y A n o 3 4)) (Spec.y A n o 4 3)) (Spec.y A n o 4 4) := by
  simp [Spec.p, Spec.ypad, max_assoc]

theorem q_0_0 {x3 : FVec Ideal S64x9 .f32} (h3 : W2 A x3) {y00 : FVec Ideal S128x64 .f32} (h00 : Y A 0 0 y00) :
    Q A 0 0 (k0_pay80 y00 x3) := by
  intro n t
  pointwise [k0_pay80, k0_pay79]
  unfold Spec.tap2
  refine Finset.sum_congr rfl fun c _ => ?_
  rw [h3, show Spec.ppad A n c (0 + 1) (0 + 1) = Spec.p A n c 0 0 from by simp [Spec.ppad], p_0_0]
  rw [h00 n c, mul_comm]

theorem q_0_1 {x3 : FVec Ideal S64x9 .f32} (h3 : W2 A x3) {y01 y02 : FVec Ideal S128x64 .f32} (h01 : Y A 0 1 y01) (h02 : Y A 0 2 y02) :
    Q A 0 1 (k0_pay81 y01 y02 x3) := by
  intro n t
  pointwise [k0_pay81, k0_pay79]
  unfold Spec.tap2
  refine Finset.sum_congr rfl fun c _ => ?_
  rw [h3, show Spec.ppad A n c (0 + 1) (1 + 1) = Spec.p A n c 0 1 from by simp [Spec.ppad], p_0_1]
  rw [h01 n c, h02 n c, mul_comm]

theorem q_0_2 {x3 : FVec Ideal S64x9 .f32} (h3 : W2 A x3) {y03 y04 : FVec Ideal S128x64 .f32} (h03 : Y A 0 3 y03) (h04 : Y A 0 4 y04) :
    Q A 0 2 (k0_pay82 y03 y04 x3) := by
  intro n t
  pointwise [k0_pay82, k0_pay79]
  unfold Spec.tap2
  refine Finset.sum_congr rfl fun c _ => ?_
  rw [h3, show Spec.ppad A n c (0 + 1) (2 + 1) = Spec.p A n c 0 2 from by simp [Spec.ppad], p_0_2]
  rw [h03 n c, h04 n c, mul_comm]

theorem q_1_0 {x3 : FVec Ideal S64x9 .f32} (h3 : W2 A x3) {y10 y20 : FVec Ideal S128x64 .f32} (h10 : Y A 1 0 y10) (h20 : Y A 2 0 y20) :
    Q A 1 0 (k0_pay83 y10 y20 x3) := by
  intro n t
  pointwise [k0_pay83, k0_pay79]
  unfold Spec.tap2
  refine Finset.sum_congr rfl fun c _ => ?_
  rw [h3, show Spec.ppad A n c (1 + 1) (0 + 1) = Spec.p A n c 1 0 from by simp [Spec.ppad], p_1_0]
  rw [h10 n c, h20 n c, mul_comm]

theorem q_1_1 {x3 : FVec Ideal S64x9 .f32} (h3 : W2 A x3) {y11 y12 y21 y22 : FVec Ideal S128x64 .f32} (h11 : Y A 1 1 y11) (h12 : Y A 1 2 y12) (h21 : Y A 2 1 y21) (h22 : Y A 2 2 y22) :
    Q A 1 1 (k0_pay84 y11 y12 y21 y22 x3) := by
  intro n t
  pointwise [k0_pay84, k0_pay79]
  unfold Spec.tap2
  refine Finset.sum_congr rfl fun c _ => ?_
  rw [h3, show Spec.ppad A n c (1 + 1) (1 + 1) = Spec.p A n c 1 1 from by simp [Spec.ppad], p_1_1]
  rw [h11 n c, h12 n c, h21 n c, h22 n c, mul_comm]

theorem q_1_2 {x3 : FVec Ideal S64x9 .f32} (h3 : W2 A x3) {y13 y14 y23 y24 : FVec Ideal S128x64 .f32} (h13 : Y A 1 3 y13) (h14 : Y A 1 4 y14) (h23 : Y A 2 3 y23) (h24 : Y A 2 4 y24) :
    Q A 1 2 (k0_pay85 y13 y14 y23 y24 x3) := by
  intro n t
  pointwise [k0_pay85, k0_pay79]
  unfold Spec.tap2
  refine Finset.sum_congr rfl fun c _ => ?_
  rw [h3, show Spec.ppad A n c (1 + 1) (2 + 1) = Spec.p A n c 1 2 from by simp [Spec.ppad], p_1_2]
  rw [h13 n c, h14 n c, h23 n c, h24 n c, mul_comm]

theorem q_2_0 {x3 : FVec Ideal S64x9 .f32} (h3 : W2 A x3) {y30 y40 : FVec Ideal S128x64 .f32} (h30 : Y A 3 0 y30) (h40 : Y A 4 0 y40) :
    Q A 2 0 (k0_pay86 y30 y40 x3) := by
  intro n t
  pointwise [k0_pay86, k0_pay79]
  unfold Spec.tap2
  refine Finset.sum_congr rfl fun c _ => ?_
  rw [h3, show Spec.ppad A n c (2 + 1) (0 + 1) = Spec.p A n c 2 0 from by simp [Spec.ppad], p_2_0]
  rw [h30 n c, h40 n c, mul_comm]

theorem q_2_1 {x3 : FVec Ideal S64x9 .f32} (h3 : W2 A x3) {y31 y32 y41 y42 : FVec Ideal S128x64 .f32} (h31 : Y A 3 1 y31) (h32 : Y A 3 2 y32) (h41 : Y A 4 1 y41) (h42 : Y A 4 2 y42) :
    Q A 2 1 (k0_pay87 y31 y32 y41 y42 x3) := by
  intro n t
  pointwise [k0_pay87, k0_pay79]
  unfold Spec.tap2
  refine Finset.sum_congr rfl fun c _ => ?_
  rw [h3, show Spec.ppad A n c (2 + 1) (1 + 1) = Spec.p A n c 2 1 from by simp [Spec.ppad], p_2_1]
  rw [h31 n c, h32 n c, h41 n c, h42 n c, mul_comm]

theorem q_2_2 {x3 : FVec Ideal S64x9 .f32} (h3 : W2 A x3) {y33 y34 y43 y44 : FVec Ideal S128x64 .f32} (h33 : Y A 3 3 y33) (h34 : Y A 3 4 y34) (h43 : Y A 4 3 y43) (h44 : ∀ (n : Fin 128) (o : Fin 64), max (y44 (ix2 n o)) 0 = Spec.y A n o 4 4) :
    Q A 2 2 (k0_pay88 y33 y34 y43 y44 x3) := by
  intro n t
  pointwise [k0_pay88, k0_pay79]
  unfold Spec.tap2
  refine Finset.sum_congr rfl fun c _ => ?_
  rw [h3, show Spec.ppad A n c (2 + 1) (2 + 1) = Spec.p A n c 2 2 from by simp [Spec.ppad], p_2_2]
  rw [h33 n c, h34 n c, h43 n c, h44 n c, mul_comm]

variable (fb2 : Fin' A.b2) (fg2 : Fin' A.g2)
include fb2 fg2

theorem z_0_0 {s0 s1 : EReal} (h0 : s0 = A.g2 * Spec.bnc) (h1 : s1 = A.b2 * (A.g2 * Spec.bnc) + A.e2)
    {x3 : FVec Ideal S64x9 .f32} {y00 y01 y02 y10 y11 y12 y20 y21 y22 : FVec Ideal S128x64 .f32} (h00 : Q A 0 0 (k0_pay80 y00 x3)) (h01 : Q A 0 1 (k0_pay81 y01 y02 x3)) (h10 : Q A 1 0 (k0_pay83 y10 y20 x3)) (h11 : Q A 1 1 (k0_pay84 y11 y12 y21 y22 x3)) :
    Z A 0 0 (k0_pay89 s0 s1 y00 y01 y02 y10 y11 y12 y20 y21 y22 x3) := by
  intro n
  have hc : Spec.conv2 A n 0 0 = Spec.tap2 A n 1 1 1 1 + Spec.tap2 A n 1 2 1 2 + Spec.tap2 A n 2 1 2 1 + Spec.tap2 A n 2 2 2 2 := by
    simp only [Spec.conv2, Nat.reduceAdd, tap2_row0, tap2_row4, tap2_col0, tap2_col4, zero_add, add_zero]
  rw [Spec.z, bnrelu_eq _ _ _ _ fb2 fg2, hc, h0, h1]
  have t4 : @Eq EReal ((k0_pay80 y00 x3) (ix2 n 4)) _ := h00 n 4
  have t5 : @Eq EReal ((k0_pay81 y01 y02 x3) (ix2 n 5)) _ := h01 n 5
  have t7 : @Eq EReal ((k0_pay83 y10 y20 x3) (ix2 n 7)) _ := h10 n 7
  have t8 : @Eq EReal ((k0_pay84 y11 y12 y21 y22 x3) (ix2 n 8)) _ := h11 n 8
  pointwise [k0_pay89]
  rw [t4, t5, t7, t8]
  rfl

theorem z_0_1 {s0 s1 : EReal} (h0 : s0 = A.g2 * Spec.bnc) (h1 : s1 = A.b2 * (A.g2 * Spec.bnc) + A.e2)
    {x3 : FVec Ideal S64x9 .f32} {y00 y01 y02 y03 y04 : FVec Ideal S128x64 .f32} {q10 q11 q12 : FVec Ideal S128x9 .f32} (h10 : Q A 1 0 q10) (h11 : Q A 1 1 q11) (h12 : Q A 1 2 q12) (h00 : Q A 0 0 (k0_pay80 y00 x3)) (h01 : Q A 0 1 (k0_pay81 y01 y02 x3)) (h02 : Q A 0 2 (k0_pay82 y03 y04 x3)) :
    Z A 0 1 (k0_pay91 s0 s1 q10 q11 q12 (k0_pay90 y00 y01 y02 y03 y04 x3)) := by
  intro n
  have hc : Spec.conv2 A n 0 1 = Spec.tap2 A n 1 0 1 1 + Spec.tap2 A n 1 1 1 2 + Spec.tap2 A n 1 2 1 3 + Spec.tap2 A n 2 0 2 1 + Spec.tap2 A n 2 1 2 2 + Spec.tap2 A n 2 2 2 3 := by
    simp only [Spec.conv2, Nat.reduceAdd, tap2_row0, tap2_row4, tap2_col0, tap2_col4, zero_add, add_zero]
  rw [Spec.z, bnrelu_eq _ _ _ _ fb2 fg2, hc, h0, h1]
  have t3 : @Eq EReal ((k0_pay80 y00 x3) (ix2 n 3)) _ := h00 n 3
  have t4 : @Eq EReal ((k0_pay81 y01 y02 x3) (ix2 n 4)) _ := h01 n 4
  have t5 : @Eq EReal ((k0_pay82 y03 y04 x3) (ix2 n 5)) _ := h02 n 5
  have t6 : @Eq EReal (q10 (ix2 n 6)) _ := h10 n 6
  have t7 : @Eq EReal (q11 (ix2 n 7)) _ := h11 n 7
  have t8 : @Eq EReal (q12 (ix2 n 8)) _ := h12 n 8
  pointwise [k0_pay91, k0_pay90]
  rw [t3, t4, t5, t6, t7, t8]
  rfl

theorem z_0_2 {s0 s1 : EReal} (h0 : s0 = A.g2 * Spec.bnc) (h1 : s1 = A.b2 * (A.g2 * Spec.bnc) + A.e2)
    {q01 q02 q11 q12 : FVec Ideal S128x9 .f32} (h01 : Q A 0 1 q01) (h02 : Q A 0 2 q02) (h11 : Q A 1 1 q11) (h12 : Q A 1 2 q12) :
    Z A 0 2 (k0_pay92 s0 s1 q01 q02 q11 q12) := by
  intro n
  have hc : Spec.conv2 A n 0 2 = Spec.tap2 A n 1 0 1 2 + Spec.tap2 A n 1 1 1 3 + Spec.tap2 A n 2 0 2 2 + Spec.tap2 A n 2 1 2 3 := by
    simp only [Spec.conv2, Nat.reduceAdd, tap2_row0, tap2_row4, tap2_col0, tap2_col4, zero_add, add_zero]
  rw [Spec.z, bnrelu_eq _ _ _ _ fb2 fg2, hc, h0, h1]
  have t3 : @Eq EReal (q01 (ix2 n 3)) _ := h01 n 3
  have t4 : @Eq EReal (q02 (ix2 n 4)) _ := h02 n 4
  have t6 : @Eq EReal (q11 (ix2 n 6)) _ := h11 n 6
  have t7 : @Eq EReal (q12 (ix2 n 7)) _ := h12 n 7
  pointwise [k0_pay92]
  rw [t3, t4, t6, t7]
  rfl

theorem z_1_0 {s0 s1 : EReal} (h0 : s0 = A.g2 * Spec.bnc) (h1 : s1 = A.b2 * (A.g2 * Spec.bnc) + A.e2)
    {q00 q01 q10 q11 q20 q21 : FVec Ideal S128x9 .f32} (h00 : Q A 0 0 q00) (h01 : Q A 0 1 q01) (h10 : Q A 1 0 q10) (h11 : Q A 1 1 q11) (h20 : Q A 2 0 q20) (h21 : Q A 2 1 q21) :
    Z A 1 0 (k0_pay93 s0 s1 q00 q01 q10 q11 q20 q21) := by
  intro n
  have hc : Spec.conv2 A n 1 0 = Spec.tap2 A n 0 1 1 1 + Spec.tap2 A n 0 2 1 2 + Spec.tap2 A n 1 1 2 1 + Spec.tap2 A n 1 2 2 2 + Spec.tap2 A n 2 1 3 1 + Spec.tap2 A n 2 2 3 2 := by
    simp only [Spec.conv2, Nat.reduceAdd, tap2_row0, tap2_row4, tap2_col0, tap2_col4, zero_add, add_zero]
  rw [Spec.z, bnrelu_eq _ _ _ _ fb2 fg2, hc, h0, h1]
  have t1 : @Eq EReal (q00 (ix2 n 1)) _ := h00 n 1
  have t2 : @Eq EReal (q01 (ix2 n 2)) _ := h01 n 2
  have t4 : @Eq EReal (q10 (ix2 n 4)) _ := h10 n 4
  have t5 : @Eq EReal (q11 (ix2 n 5)) _ := h11 n 5
  have t7 : @Eq EReal (q20 (ix2 n 7)) _ := h20 n 7
  have t8 : @Eq EReal (q21 (ix2 n 8)) _ := h21 n 8
  pointwise [k0_pay93]
  rw [t1, t2, t4, t5, t7, t8]
  rfl

theorem z_1_1 {s0 s1 : EReal} (h0 : s0 = A.g2 * Spec.bnc) (h1 : s1 = A.b2 * (A.g2 * Spec.bnc) + A.e2)
    {q00 q01 q02 q10 q11 q12 q20 q21 q22 : FVec Ideal S128x9 .f32} (h00 : Q A 0 0 q00) (h01 : Q A 0 1 q01) (h02 : Q A 0 2 q02) (h10 : Q A 1 0 q10) (h11 : Q A 1 1 q11) (h12 : Q A 1 2 q12) (h20 : Q A 2 0 q20) (h21 : Q A 2 1 q21) (h22 : Q A 2 2 q22) :
    Z A 1 1 (k0_pay95 s0 s1 q22 (k0_pay94 q00 q01 q02 q10 q11 q12 q20 q21)) := by
  intro n
  have hc : Spec.conv2 A n 1 1 = Spec.tap2 A n 0 0 1 1 + Spec.tap2 A n 0 1 1 2 + Spec.tap2 A n 0 2 1 3 + Spec.tap2 A n 1 0 2 1 + Spec.tap2 A n 1 1 2 2 + Spec.tap2 A n 1 2 2 3 + Spec.tap2 A n 2 0 3 1 + Spec.tap2 A n 2 1 3 2 + Spec.tap2 A n 2 2 3 3 := by
    simp only [Spec.conv2, Nat.reduceAdd, tap2_row0, tap2_row4, tap2_col0, tap2_col4, zero_add, add_zero]
  rw [Spec.z, bnrelu_eq _ _ _ _ fb2 fg2, hc, h0, h1]
  have t0 : @Eq EReal (q00 (ix2 n 0)) _ := h00 n 0
  have t1 : @Eq EReal (q01 (ix2 n 1)) _ := h01 n 1
  have t2 : @Eq EReal (q02 (ix2 n 2)) _ := h02 n 2
  have t3 : @Eq EReal (q10 (ix2 n 3)) _ := h10 n 3
  have t4 : @Eq EReal (q11 (ix2 n 4)) _ := h11 n 4
  have t5 : @Eq EReal (q12 (ix2 n 5)) _ := h12 n 5
  have t6 : @Eq EReal (q20 (ix2 n 6)) _ := h20 n 6
  have t7 : @Eq EReal (q21 (ix2 n 7)) _ := h21 n 7
  have t8 : @Eq EReal (q22 (ix2 n 8)) _ := h22 n 8
  pointwise [k0_pay95, k0_pay94]
  rw [t0, t1, t2, t3, t4, t5, t6, t7, t8]
  rfl

theorem z_1_2 {s0 s1 : EReal} (h0 : s0 = A.g2 * Spec.bnc) (h1 : s1 = A.b2 * (A.g2 * Spec.bnc) + A.e2)
    {q01 q02 q11 q12 q21 q22 : FVec Ideal S128x9 .f32} (h01 : Q A 0 1 q01) (h02 : Q A 0 2 q02) (h11 : Q A 1 1 q11) (h12 : Q A 1 2 q12) (h21 : Q A 2 1 q21) (h22 : Q A 2 2 q22) :
    Z A 1 2 (k0_pay96 s0 s1 q01 q02 q11 q12 q21 q22) := by
  intro n
  have hc : Spec.conv2 A n 1 2 = Spec.tap2 A n 0 0 1 2 + Spec.tap2 A n 0 1 1 3 + Spec.tap2 A n 1 0 2 2 + Spec.tap2 A n 1 1 2 3 + Spec.tap2 A n 2 0 3 2 + Spec.tap2 A n 2 1 3 3 := by
    simp only [Spec.conv2, Nat.reduceAdd, tap2_row0, tap2_row4, tap2_col0, tap2_col4, zero_add, add_zero]
  rw [Spec.z, bnrelu_eq _ _ _ _ fb2 fg2, hc, h0, h1]
  have t0 : @Eq EReal (q01 (ix2 n 0)) _ := h01 n 0
  have t1 : @Eq EReal (q02 (ix2 n 1)) _ := h02 n 1
  have t3 : @Eq EReal (q11 (ix2 n 3)) _ := h11 n 3
  have t4 : @Eq EReal (q12 (ix2 n 4)) _ := h12 n 4
  have t6 : @Eq EReal (q21 (ix2 n 6)) _ := h21 n 6
  have t7 : @Eq EReal (q22 (ix2 n 7)) _ := h22 n 7
  pointwise [k0_pay96]
  rw [t0, t1, t3, t4, t6, t7]
  rfl

theorem z_2_0 {s0 s1 : EReal} (h0 : s0 = A.g2 * Spec.bnc) (h1 : s1 = A.b2 * (A.g2 * Spec.bnc) + A.e2)
    {q10 q11 q20 q21 : FVec Ideal S128x9 .f32} (h10 : Q A 1 0 q10) (h11 : Q A 1 1 q11) (h20 : Q A 2 0 q20) (h21 : Q A 2 1 q21) :
    Z A 2 0 (k0_pay97 s0 s1 q10 q11 q20 q21) := by
  intro n
  have hc : Spec.conv2 A n 2 0 = Spec.tap2 A n 0 1 2 1 + Spec.tap2 A n 0 2 2 2 + Spec.tap2 A n 1 1 3 1 + Spec.tap2 A n 1 2 3 2 := by
    simp only [Spec.conv2, Nat.reduceAdd, tap2_row0, tap2_row4, tap2_col0, tap2_col4, zero_add, add_zero]
  rw [Spec.z, bnrelu_eq _ _ _ _ fb2 fg2, hc, h0, h1]
  have t1 : @Eq EReal (q10 (ix2 n 1)) _ := h10 n 1
  have t2 : @Eq EReal (q11 (ix2 n 2)) _ := h11 n 2
  have t4 : @Eq EReal (q20 (ix2 n 4)) _ := h20 n 4
  have t5 : @Eq EReal (q21 (ix2 n 5)) _ := h21 n 5
  pointwise [k0_pay97]
  rw [t1, t2, t4, t5]
  rfl

theorem z_2_1 {s0 s1 : EReal} (h0 : s0 = A.g2 * Spec.bnc) (h1 : s1 = A.b2 * (A.g2 * Spec.bnc) + A.e2)
    {q10 q11 q12 q20 q21 q22 : FVec Ideal S128x9 .f32} (h10 : Q A 1 0 q10) (h11 : Q A 1 1 q11) (h12 : Q A 1 2 q12) (h20 : Q A 2 0 q20) (h21 : Q A 2 1 q21) (h22 : Q A 2 2 q22) :
    Z A 2 1 (k0_pay98 s0 s1 q10 q11 q12 q20 q21 q22) := by
  intro n
  have hc : Spec.conv2 A n 2 1 = Spec.tap2 A n 0 0 2 1 + Spec.tap2 A n 0 1 2 2 + Spec.tap2 A n 0 2 2 3 + Spec.tap2 A n 1 0 3 1 + Spec.tap2 A n 1 1 3 2 + Spec.tap2 A n 1 2 3 3 := by
    simp only [Spec.conv2, Nat.reduceAdd, tap2_row0, tap2_row4, tap2_col0, tap2_col4, zero_add, add_zero]
  rw [Spec.z, bnrelu_eq _ _ _ _ fb2 fg2, hc, h0, h1]
  have t0 : @Eq EReal (q10 (ix2 n 0)) _ := h10 n 0
  have t1 : @Eq EReal (q11 (ix2 n 1)) _ := h11 n 1
  have t2 : @Eq EReal (q12 (ix2 n 2)) _ := h12 n 2
  have t3 : @Eq EReal (q20 (ix2 n 3)) _ := h20 n 3
  have t4 : @Eq EReal (q21 (ix2 n 4)) _ := h21 n 4
  have t5 : @Eq EReal (q22 (ix2 n 5)) _ := h22 n 5
  pointwise [k0_pay98]
  rw [t0, t1, t2, t3, t4, t5]
  rfl

end Cert.K.Ker
-- ==== Proof.KerGram.lean ====
module

public import proofs.«01_k».proof.Proof.KerPool

/-! The divisor, the scaled features and their products, as the kernel writes them. -/

@[expose] public section

set_option maxRecDepth 16384

noncomputable section

namespace Cert.K.Ker
open Cert.KernelIdeal Cert.KernelIdeal.Gen
open Idealize.ShloMosaic Idealize.ShloMosaic.TcCoe Idealize.SL.Sem

variable (A : Spec.Args)
variable (fb2 : Fin' A.b2) (fg2 : Fin' A.g2)
include fb2 fg2

theorem row {s0 s1 s2 : EReal} (h0 : s0 = A.g2 * Spec.bnc) (h1 : s1 = A.b2 * (A.g2 * Spec.bnc) + A.e2) (h2 : s2 = A.b4 + Spec.eps)
    {q11 q12 q21 q22 : FVec Ideal S128x9 .f32} (h11 : Q A 1 1 q11) (h12 : Q A 1 2 q12) (h21 : Q A 2 1 q21) (h22 : Q A 2 2 q22)
    {z00 z01 z02 z10 z11 z12 z20 z21 : FVec Ideal S128x1 .f32} (k00 : Z A 0 0 z00) (k01 : Z A 0 1 z01) (k02 : Z A 0 2 z02)
    (k10 : Z A 1 0 z10) (k11 : Z A 1 1 z11) (k12 : Z A 1 2 z12) (k20 : Z A 2 0 z20) (k21 : Z A 2 1 z21)
    {x4 : FVec Ideal S8x4 .f32} (hw3 : ∀ (u : Fin 8) (k : Fin 4), x4 (ix2 u k) = A.w3 u k)
    {b3 w4 : FVec Ideal S1x8 .f32} (hb3 : ∀ u : Fin 8, b3 (ix2 0 u) = A.b3 u) (hw4 : ∀ u : Fin 8, w4 (ix2 0 u) = A.w4 u)
    (n : Fin 128) :
    (∑ x : Fin 8, max (∑ y : Fin 4,
        (if h : y.val < 1 then z00 (ix2 n ⟨y.val, by omega⟩)
          else if h : y.val - 1 < 1 then max (z01 (ix2 n ⟨y.val - 1, by omega⟩)) (z02 (ix2 n ⟨y.val - 1, by omega⟩))
          else if h : y.val - 1 - 1 < 1 then max (z10 (ix2 n ⟨y.val - 1 - 1, by omega⟩)) (z20 (ix2 n ⟨y.val - 1 - 1, by omega⟩))
          else max (max (z11 (ix2 n ⟨y.val - 1 - 1 - 1, by omega⟩)) (z12 (ix2 n ⟨y.val - 1 - 1 - 1, by omega⟩)))
            (max (z21 (ix2 n ⟨y.val - 1 - 1 - 1, by omega⟩))
              (max ((q11 (ix2 n ⟨y.val - 1 - 1 - 1, by omega⟩) + q12 (ix2 n ⟨1 + (y.val - 1 - 1 - 1), by omega⟩)
                + q21 (ix2 n ⟨3 + (y.val - 1 - 1 - 1), by omega⟩) + q22 (ix2 n ⟨4 + (y.val - 1 - 1 - 1), by omega⟩)) * s0 + s1) 0)))
          * x4 (ix2 x y) + b3 (ix2 0 x)) 0 * w4 (ix2 0 x)) + s2 = Spec.s A n := by
  have hc : Spec.conv2 A n 2 2 = Spec.tap2 A n 0 0 2 2 + Spec.tap2 A n 0 1 2 3 + Spec.tap2 A n 1 0 3 2 + Spec.tap2 A n 1 1 3 3 := by
    simp only [Spec.conv2, Nat.reduceAdd, tap2_row0, tap2_row4, tap2_col0, tap2_col4, zero_add, add_zero]
  have t0 : @Eq EReal (q11 (ix2 n 0)) _ := h11 n 0
  have t1 : @Eq EReal (q12 (ix2 n 1)) _ := h12 n 1
  have t3 : @Eq EReal (q21 (ix2 n 3)) _ := h21 n 3
  have t4 : @Eq EReal (q22 (ix2 n 4)) _ := h22 n 4
  have hz : max ((q11 (ix2 n 0) + q12 (ix2 n 1) + q21 (ix2 n 3) + q22 (ix2 n 4)) * s0 + s1) 0 = Spec.z A n 2 2 := by
    rw [Spec.z, bnrelu_eq _ _ _ _ fb2 fg2, hc, h0, h1, t0, t1, t3, t4]
    rfl
  rw [h2, Spec.s, add_assoc]
  congr 1
  refine Finset.sum_congr rfl fun u _ => ?_
  rw [hb3, hw4, Spec.h3]
  congr 3
  refine Finset.sum_congr rfl fun k _ => ?_
  rw [hw3]
  congr 1
  fin_cases k
  · exact (k00 n).trans (by simp [Spec.vv, Spec.zpad])
  · refine (congrArg₂ max (k01 n) (k02 n)).trans (by simp [Spec.vv, Spec.zpad])
  · refine (congrArg₂ max (k10 n) (k20 n)).trans (by simp [Spec.vv, Spec.zpad])
  · refine (congrArg₂ max (congrArg₂ max (k11 n) (k12 n)) (congrArg₂ max (k21 n) hz)).trans (by simp [Spec.vv, Spec.zpad])

theorem gram {s0 s1 s2 : EReal} (h0 : s0 = A.g2 * Spec.bnc) (h1 : s1 = A.b2 * (A.g2 * Spec.bnc) + A.e2) (h2 : s2 = A.b4 + Spec.eps)
    {q11 q12 q21 q22 : FVec Ideal S128x9 .f32} (h11 : Q A 1 1 q11) (h12 : Q A 1 2 q12) (h21 : Q A 2 1 q21) (h22 : Q A 2 2 q22)
    {z00 z01 z02 z10 z11 z12 z20 z21 : FVec Ideal S128x1 .f32} (k00 : Z A 0 0 z00) (k01 : Z A 0 1 z01) (k02 : Z A 0 2 z02)
    (k10 : Z A 1 0 z10) (k11 : Z A 1 1 z11) (k12 : Z A 1 2 z12) (k20 : Z A 2 0 z20) (k21 : Z A 2 1 z21)
    {x4 : FVec Ideal S8x4 .f32} (hw3 : ∀ (u : Fin 8) (k : Fin 4), x4 (ix2 u k) = A.w3 u k)
    {b3 w4 : FVec Ideal S1x8 .f32} (hb3 : ∀ u : Fin 8, b3 (ix2 0 u) = A.b3 u) (hw4 : ∀ u : Fin 8, w4 (ix2 0 u) = A.w4 u)
    {F : FVec Ideal S128x1600 .f32} (hF : ∀ (n : Fin 128) (k : Fin 1600), F (ix2 n k) = A.F n k)
    (hs : ∀ n, Spec.s A n ≠ 0) (i j : Fin 128) :
    k0_pay101 s0 s1 s2 q12 q21 q22 z00 z01 z02 z10 z11 z12 z20 z21 (k0_pay99 q11) x4 b3 w4 F (ix2 i j)
      = ∑ k : Fin 1600, Spec.f A i k * Spec.f A j k := by
  pointwise [k0_pay101, k0_pay100, k0_pay99]
  have r := row A fb2 fg2 h0 h1 h2 h11 h12 h21 h22 k00 k01 k02 k10 k11 k12 k20 k21 hw3 hb3 hw4
  rw [r i, r j]
  refine Finset.sum_congr rfl fun k _ => ?_
  have e : ∀ n, F (ix2 n k) * Ideal.div 1 (Spec.s A n) = Spec.f A n k := by
    intro n
    rw [hF, Spec.f, Ideal.div, Ideal.div, if_neg (hs n), if_neg (hs n), one_mul]
  rw [e, e]

end Cert.K.Ker
-- ==== Proof.Rank.lean ====
module

public import proofs.«01_k».proof.Proof.Spec
public import Idealize.ShloMosaic.Lib.SortFacts

/-! The 26 largest entries of a row without ties: by sorting, and by striking out the largest entry 25 times. -/

@[expose] public section

set_option maxRecDepth 16384

noncomputable section

namespace Cert.K.Rank
open Idealize.ShloMosaic Cert.K.Spec

variable (v : Fin 128 → EReal)

theorem rank_lt (a b : Fin 128) : rank v b < rank v a ↔ v a < v b := by
  unfold rank
  constructor
  · intro h
    by_contra hn
    refine absurd (Finset.card_le_card ?_) (not_le.mpr h)
    intro k
    simp only [Finset.mem_filter, Finset.mem_univ, true_and]
    exact fun hk => lt_of_le_of_lt (not_lt.mp hn) hk
  · intro h
    refine Finset.card_lt_card ⟨fun k => ?_, fun hs => ?_⟩
    · simp only [Finset.mem_filter, Finset.mem_univ, true_and]
      exact fun hk => h.trans hk
    · have := hs (Finset.mem_filter.mpr ⟨Finset.mem_univ b, h⟩)
      exact absurd (Finset.mem_filter.mp this).2 (lt_irrefl _)

theorem rank_inj (hv : Function.Injective v) {a b : Fin 128} (h : rank v a = rank v b) : a = b := by
  apply hv
  rcases lt_trichotomy (v a) (v b) with hlt | heq | hgt
  · exact absurd ((rank_lt v a b).mpr hlt) (by omega)
  · exact heq
  · exact absurd ((rank_lt v b a).mpr hgt) (by omega)

/-- The descending sort's order of the entries. -/
abbrev perm : Fin 128 → Fin 128 := sortedFrom fun k k' => decide (v k' < v k)

theorem perm_anti (hv : Function.Injective v) {i j : Fin 128} (h : i < j) : v (perm v j) < v (perm v i) := by
  have h1 := sortedFrom_noInversion (fun k k' => decide (v k' < v k)) (fun k k' => decide (v k' < v k))
    (fun a b hab => by
      simp only [decide_eq_true_eq, decide_eq_false_iff_not] at hab ⊢
      exact not_lt.mpr hab.le)
    (fun _ _ hab => hab)
    (fun a b c hab hbc => by
      simp only [decide_eq_false_iff_not, not_lt] at hab hbc ⊢
      exact hab.trans hbc) i j h
  simp only [decide_eq_false_iff_not, not_lt] at h1
  exact lt_of_le_of_ne h1 fun he => absurd (sortedFrom_injective _ (hv he)) h.ne'

theorem rank_perm (hv : Function.Injective v) (k : Fin 128) : rank v (perm v k) = k.val := by
  have hc : ∀ a b : Fin 128, v (perm v a) < v (perm v b) ↔ b < a := fun a b => by
    refine ⟨fun hlt => ?_, fun hba => perm_anti v hv hba⟩
    by_contra hn
    rcases (not_lt.mp hn).lt_or_eq with h | h
    · exact absurd (perm_anti v hv h) (not_lt.mpr hlt.le)
    · exact absurd hlt (by rw [h]; exact lt_irrefl _)
  have hset : (Finset.univ.filter fun a => v (perm v k) < v a) = (Finset.univ.filter fun b : Fin 128 => b < k).image (perm v) := by
    ext a
    simp only [Finset.mem_filter, Finset.mem_univ, true_and, Finset.mem_image]
    constructor
    · intro ha
      obtain ⟨b, rfl⟩ := sortedFrom_surjective (fun k k' => decide (v k' < v k)) a
      exact ⟨b, (hc k b).mp ha, rfl⟩
    · rintro ⟨b, hb, rfl⟩
      exact (hc k b).mpr hb
  unfold rank
  rw [hset, Finset.card_image_of_injective _ (sortedFrom_injective _)]
  rw [show (Finset.univ.filter fun b : Fin 128 => b < k) = Finset.Iio k from by ext; simp]
  exact Fin.card_Iio k

/-- An entry is among the first 26 of the sorted row when its rank is below 26. -/
theorem rank_lt_26 (hv : Function.Injective v) (j : Fin 128) :
    rank v j < 26 ↔ ∃ b : Fin 26, perm v ⟨b.val, by omega⟩ = j := by
  constructor
  · intro h
    obtain ⟨b, rfl⟩ := sortedFrom_surjective (fun k k' => decide (v k' < v k)) j
    have hb := rank_perm v hv b
    exact ⟨⟨b.val, by rw [← hb]; exact h⟩, rfl⟩
  · rintro ⟨b, rfl⟩
    rw [rank_perm v hv]
    exact b.isLt

/-- The largest entry. -/
def top (w : Fin 128 → EReal) : EReal := Finset.univ.fold max ⊥ w

theorem top_eq (w : Fin 128 → EReal) (t : Fin 128) (h : ∀ j, w j ≤ w t) : top w = w t := by
  unfold top
  apply le_antisymm
  · rw [Finset.fold_max_le]
    exact ⟨bot_le, fun j _ => h j⟩
  · rw [Finset.le_fold_max]
    exact Or.inr ⟨t, Finset.mem_univ _, le_rfl⟩

/-- One round: the largest entry is replaced by `c`. -/
def strike (c : EReal) (w : Fin 128 → EReal) : Fin 128 → EReal := fun j => if w j = top w then c else w j

/-- The row after `r` rounds. -/
def after (c : EReal) : ℕ → Fin 128 → EReal
  | 0 => v
  | r + 1 => strike c (after c r)

theorem top_after (hv : Function.Injective v) (c : EReal) (hc : ∀ j, c < v j) (r : ℕ) (t : Fin 128) (ht : rank v t = r)
    (h : ∀ j, after v c r j = if rank v j < r then c else v j) : top (after v c r) = v t := by
  have htt : after v c r t = v t := by rw [h, if_neg (by omega)]
  rw [top_eq _ t, htt]
  intro j
  rw [htt, h]
  split_ifs with hj
  · exact (hc t).le
  · refine not_lt.mp fun hlt => hj ?_
    rw [← ht]
    exact (rank_lt v t j).mpr hlt

theorem after_eq (hv : Function.Injective v) (c : EReal) (hc : ∀ j, c < v j) (r : ℕ) (hr : r ≤ 128) (j : Fin 128) :
    after v c r j = if rank v j < r then c else v j := by
  induction r generalizing j with
  | zero => rfl
  | succ r ih =>
    have ih' := fun j => ih (by omega) j
    have hrt : rank v (perm v ⟨r, by omega⟩) = r := rank_perm v hv _
    have htop := top_after v hv c hc r _ hrt ih'
    show strike c (after v c r) j = _
    unfold strike
    rw [htop, ih']
    by_cases h1 : rank v j < r
    · rw [if_pos h1, if_pos (by omega : rank v j < r + 1), if_neg (hc _).ne]
    · rw [if_neg h1]
      by_cases h2 : rank v j < r + 1
      · have he : j = perm v ⟨r, by omega⟩ := rank_inj v hv (by omega)
        rw [if_pos h2, if_pos (by rw [← he])]
      · rw [if_neg h2, if_neg]
        intro he
        have := hv he
        rw [this] at h2
        omega

/-- The threshold after 25 rounds selects the 26 largest entries. -/
theorem threshold (hv : Function.Injective v) (c : EReal) (hc : ∀ j, c < v j) (j : Fin 128) :
    top (after v c 25) ≤ v j ↔ rank v j < 26 := by
  have hrt : rank v (perm v ⟨25, by omega⟩) = 25 := rank_perm v hv _
  rw [top_after v hv c hc 25 _ hrt fun j => after_eq v hv c hc 25 (by omega) j, ← not_lt, ← rank_lt, hrt]
  omega

end Cert.K.Rank
-- ==== Proof.KerAdj.lean ====
module

public import proofs.«01_k».proof.Proof.KerGram
public import proofs.«01_k».proof.Proof.Rank
public import Idealize.ShloMosaic.Lib.Exec

/-! The similarities, the thresholds and the adjacency, as the kernel writes them. -/

@[expose] public section

set_option maxRecDepth 16384

noncomputable section

namespace Cert.K.Ker
open Cert.KernelIdeal Cert.KernelIdeal.Gen
open Idealize.ShloMosaic Idealize.ShloMosaic.TcCoe Idealize.SL.Sem

variable (A : Spec.Args)

/-- The square identity matrix's entry. -/
def one (i j : Fin 128) : EReal := if i = j then 1 else 0

theorem eye (i j : Fin 128) : @Eq EReal (k0_pay102 (F := Ideal) (ix2 i j)) (one i j) := by
  pointwise [k0_pay102]
  rw [Idealize.ShloMosaic.WordCmp.cmpi_eq_ofNat (by omega) (by omega), sitofp_bool]
  simp only [one, Fin.ext_iff]

theorem two : Ideal.ofBits .f32 1073741824#32 = ((2 : ℝ) : EReal) := by
  simp [Ideal.ofBits, Ideal.ieee]
  rw [← EReal.coe_mul]
  norm_num
theorem minus : Ideal.ofBits .f32 3212836864#32 = ((-1 : ℝ) : EReal) := by
  simp [Ideal.ofBits, Ideal.ieee]
  rw [← EReal.coe_mul]
  norm_num
theorem least : Ideal.ofBits .f32 4286578688#32 = ⊥ := by
  simp [Ideal.ofBits, Ideal.ieee]

theorem real_sum {ι : Type} (t : Finset ι) (g : ι → ℝ) : (∑ k ∈ t, (g k : EReal)) = ((∑ k ∈ t, g k : ℝ) : EReal) := by
  classical
  induction t using Finset.induction_on with
  | empty => simp
  | insert a t h ih => rw [Finset.sum_insert h, Finset.sum_insert h, ih, EReal.coe_add]

theorem stroke (G : FVec Ideal S128x128 .f32) (i j : Fin 128) :
    @Eq EReal (k0_pay104 G (ix2 i j))
      (if G (ix2 i j) = Finset.fold max (Ideal.ofBits FTy.f32 4286578688#32) (fun x => G (ix2 i x)) Finset.univ then
        Ideal.ofBits FTy.f32 3212836864#32 else G (ix2 i j)) := by
  pointwise [k0_pay104]

/-- The squared distance is the squared length of both minus twice the product. -/
theorem dist (hf : ∀ i k, Fin' (Spec.f A i k)) (i j : Fin 128) :
    ∃ r : ℝ, Spec.d2 A i j = (r : EReal) ∧
      max ((∑ k, Spec.f A i k * Spec.f A i k) + (∑ k, Spec.f A j k * Spec.f A j k)
        - ((2 : ℝ) : EReal) * ∑ k, Spec.f A i k * Spec.f A j k) 0 = (r : EReal) := by
  choose φ hφ using hf
  refine ⟨∑ k, (φ i k - φ j k) * (φ i k - φ j k), ?_, ?_⟩
  · unfold Spec.d2
    simp only [hφ, ← EReal.coe_sub, ← EReal.coe_mul]
    exact real_sum _ _
  · simp only [hφ, ← EReal.coe_mul]
    rw [real_sum, real_sum, real_sum, ← EReal.coe_add, ← EReal.coe_mul, ← EReal.coe_sub]
    have e : (∑ k, φ i k * φ i k) + (∑ k, φ j k * φ j k) - 2 * ∑ k, φ i k * φ j k
        = ∑ k, (φ i k - φ j k) * (φ i k - φ j k) := by
      rw [Finset.mul_sum, ← Finset.sum_add_distrib, ← Finset.sum_sub_distrib]
      exact Finset.sum_congr rfl fun k _ => by ring
    rw [e]
    exact max_eq_left (EReal.coe_nonneg.mpr (Finset.sum_nonneg fun k _ => mul_self_nonneg _))

theorem ae_pos (hf : ∀ i k, Fin' (Spec.f A i k)) (i j : Fin 128) : ∃ r : ℝ, 0 < r ∧ Spec.ae A i j = (r : EReal) := by
  obtain ⟨r, h, -⟩ := dist A hf i j
  refine ⟨Real.exp (-r), Real.exp_pos _, ?_⟩
  rw [Spec.ae, h, ← EReal.coe_neg]
  rfl

theorem pick (g : Fin 128 → EReal) (i : Fin 128) : (∑ x, g x * one i x) = g i := by
  rw [Finset.sum_eq_single i]
  · rw [one, if_pos rfl, mul_one]
  · intro x _ hx
    rw [one, if_neg (Ne.symm hx), mul_zero]
  · intro h
    exact absurd (Finset.mem_univ _) h

theorem one_comm (i j : Fin 128) : one i j = one j i := by
  unfold one
  exact if_congr eq_comm rfl rfl

variable {G : FVec Ideal S128x128 .f32} (hG : ∀ i j : Fin 128, @Eq EReal (G (ix2 i j)) (∑ k : Fin 1600, Spec.f A i k * Spec.f A j k))
  (hf : ∀ i k, Fin' (Spec.f A i k))
include hG hf

theorem sim (i j : Fin 128) : @Eq EReal (k0_pay103 G k0_pay102 (ix2 i j)) (Spec.ae A i j) := by
  pointwise [k0_pay103, eye]
  rw [pick (fun x => G (ix2 i x)) i]
  have h : ∀ x, G (ix2 x j) * one x j = G (ix2 x j) * one j x := fun x => by rw [one_comm]
  simp only [h]
  rw [pick (fun x => G (ix2 x j)) j, hG, hG, hG, two, zero_sub]
  obtain ⟨r, h1, h2⟩ := dist A hf i j
  rw [h2, Spec.ae, h1]

theorem rounds (n : ℕ) (i j : Fin 128) :
    @Eq EReal (((fun a => k0_pay104 (F := Ideal) a)^[n] (k0_pay103 G k0_pay102)) (ix2 i j)) (Rank.after (Spec.ae A i) (((-1 : ℝ) : EReal)) n j) := by
  induction n generalizing j with
  | zero => exact sim A hG hf i j
  | succ n ih =>
    rw [Function.iterate_succ_apply']
    refine (stroke _ i j).trans ?_
    rw [least, minus]
    simp only [ih]
    rfl

theorem looped {n : ℕ} (hn : n = 25) (i j : Fin 128) :
    @Eq EReal ((Scf.fold (n := n) (fun _ a => k0_pay104 a) (k0_pay103 G k0_pay102)) (ix2 i j))
      (Rank.after (Spec.ae A i) (((-1 : ℝ) : EReal)) 25 j) := by
  subst hn
  rw [Scf.fold_eq, List.foldl_const, List.length_finRange]
  exact rounds A hG hf 25 i j

variable {T : FVec Ideal S128x128 .f32} (hT : ∀ i j : Fin 128, @Eq EReal (T (ix2 i j)) (Rank.after (Spec.ae A i) (((-1 : ℝ) : EReal)) 25 j))
  (hv : ∀ i, Function.Injective (Spec.ae A i))
include hT hv

theorem cell (i x : Fin 128) :
    one i x + Scalar.select
              (IntOp.andi
                (BitVec.ofBool
                  (decide
                    (Finset.fold max (Ideal.ofBits FTy.f32 4286578688#32) (fun x => T (ix2 i x)) Finset.univ ≤ Spec.ae A i x)))
                (IntOp.cmpi CmpIPredicate.ne (BitVec.ofNat 32 ↑i) (BitVec.ofNat 32 ↑x)))
              (Spec.ae A i x) (0 : EReal) = Spec.adj A i x := by
  have ht : Finset.fold max (Ideal.ofBits FTy.f32 4286578688#32) (fun x => T (ix2 i x)) Finset.univ
      = Rank.top (Rank.after (Spec.ae A i) (((-1 : ℝ) : EReal)) 25) := by
    rw [least]
    unfold Rank.top
    simp only [hT]
  have hlt : ∀ j, ((-1 : ℝ) : EReal) < Spec.ae A i j := by
    intro j
    obtain ⟨r, h, e⟩ := ae_pos A hf i j
    rw [e, EReal.coe_lt_coe_iff]
    linarith
  rw [ht, Idealize.ShloMosaic.WordCmp.cmpi_ne_ofNat (by omega) (by omega), Spec.adj, one]
  congr 1
  have e := Rank.threshold (Spec.ae A i) (hv i) _ hlt x
  by_cases h1 : Rank.top (Rank.after (Spec.ae A i) (((-1 : ℝ) : EReal)) 25) ≤ Spec.ae A i x
  · by_cases h2 : i = x
    · subst h2
      simp [Scalar.select, IntOp.andi]
    · have h3 : (i.val ≠ x.val) := fun h => h2 (Fin.ext h)
      rw [if_pos ⟨h2, e.mp h1⟩, decide_eq_true h1, decide_eq_true h3]
      rfl
  · rw [if_neg (fun h => h1 (e.mpr h.2)), decide_eq_false h1]
    cases decide (i.val ≠ x.val) <;> rfl

theorem normal (i j : Fin 128) :
    @Eq EReal (k0_pay105 G (iota Kind.tc S128x128 32 [0] iota_S128x128_d0_w32) (iota Kind.tc S128x128 32 [1] iota_S128x128_d1_w32) k0_pay102 T (ix2 i j))
      (Spec.an A i j) := by
  have hc := cell A hG hf hT hv
  have hs := sim A hG hf
  pointwise [k0_pay105, eye, hs]
  simp only [hc]
  rw [Finset.sum_eq_single j]
  · rw [one, if_pos rfl, one_mul, Spec.an, Spec.rc, Spec.rc, mul_comm (Spec.adj A i j)]
  · intro x _ hx
    rw [one, if_neg hx, zero_mul, mul_zero]
  · intro h
    exact absurd (Finset.mem_univ _) h

theorem square (i j : Fin 128) :
    @Eq EReal (k0_pay106 G (iota Kind.tc S128x128 32 [0] iota_S128x128_d0_w32) (iota Kind.tc S128x128 32 [1] iota_S128x128_d1_w32) k0_pay102 T (ix2 i j))
      (∑ k, Spec.an A i k * Spec.an A k j) := by
  have hn := normal A hG hf hT hv
  pointwise [k0_pay106, hn]

theorem mix {s3 s4 : EReal} (h3 : s3 = A.al 0) (h4 : s4 = A.al 1) (i j : Fin 128) :
    @Eq EReal (k0_pay107 s3 s4 G (iota Kind.tc S128x128 32 [0] iota_S128x128_d0_w32) (iota Kind.tc S128x128 32 [1] iota_S128x128_d1_w32) k0_pay102 T (ix2 i j))
      (A.al 0 * one i j + A.al 1 * Spec.an A i j) := by
  have hn := normal A hG hf hT hv
  pointwise [k0_pay107, hn, eye]
  rw [h3, h4]

omit hG hf hT hv in
theorem last {s5 : EReal} (h5 : s5 = A.al 2) (fb3 : ∀ o, Fin' (A.gb o)) (fg3 : ∀ o, Fin' (A.g3 o))
    {F : FVec Ideal S128x1600 .f32} (hF : ∀ (n : Fin 128) (k : Fin 1600), F (ix2 n k) = A.F n k)
    {S L : FVec Ideal S128x128 .f32} (hS : ∀ i j : Fin 128, @Eq EReal (S (ix2 i j)) (∑ k, Spec.an A i k * Spec.an A k j))
    (hL : ∀ i j : Fin 128, @Eq EReal (L (ix2 i j)) (A.al 0 * one i j + A.al 1 * Spec.an A i j))
    {gw : FVec Ideal S1600x1000 .f32} (hw : ∀ (l : Fin 1600) (o : Fin 1000), gw (ix2 l o) = A.gw l o)
    {a b : FVec Ideal S1x1000 .f32} (ha : ∀ o : Fin 1000, a (ix2 0 o) = A.g3 o * Spec.bnc)
    (hb : ∀ o : Fin 1000, b (ix2 0 o) = A.gb o * (A.g3 o * Spec.bnc) + A.e3 o) (i : Fin 128) (j : Fin 1000) :
    @Eq EReal (k0_pay1 s5 (k0_pay100 F) S L gw a b (ix2 i j)) (Spec.out A i j) := by
  pointwise [k0_pay1, k0_pay100]
  rw [Spec.out, bnrelu_eq _ _ _ _ (fb3 j) (fg3 j), ha, hb]
  simp only [hS, hL, hF, hw, h5]
  rfl

end Cert.K.Ker
-- ==== Proof.KerWhole.lean ====
module

public import proofs.«01_k».proof.Proof.KerAdj

/-! The kernel's result from what it loads: every intermediate value with its equation. -/

@[expose] public section

set_option maxRecDepth 16384

noncomputable section

namespace Cert.K.Ker
open Cert.KernelIdeal Cert.KernelIdeal.Gen
open Idealize.ShloMosaic Idealize.ShloMosaic.TcCoe Idealize.SL.Sem

/-- What is asked of the arguments: finite factors and biases, divisors that are not zero, finite scaled features,
    and no two equal similarities in a row. -/
structure Good (A : Spec.Args) : Prop where
  fb1 : ∀ o, Fin' (A.b1 o)
  fg1 : ∀ o, Fin' (A.g1 o)
  fb2 : Fin' A.b2
  fg2 : Fin' A.g2
  fb3 : ∀ o, Fin' (A.gb o)
  fg3 : ∀ o, Fin' (A.g3 o)
  hs : ∀ n, Spec.s A n ≠ 0
  hf : ∀ i k, Fin' (Spec.f A i k)
  hv : ∀ i, Function.Injective (Spec.ae A i)

theorem whole (A : Spec.Args) (good : Good A)
    {s0 s1 s2 s3 s4 s5 : EReal} {L0 L1 L2 L3 L4 L5 L6 L7 L8 L9 L10 L11 L12 L13 L14 L15 L16 L17 L18 L19 L20 L21 L22 L23 L24 : FVec Ideal S128x64 .f32} {Lg Lb Le : FVec Ideal S1x64 .f32} {Lb3 Lw4 : FVec Ideal S1x8 .f32}
    {LF : FVec Ideal S128x1600 .f32} {Lg3 Le3 : FVec Ideal S1x1000 .f32} {x1 : FVec Ideal S1600x1000 .f32} {x2 : FVec Ideal S64x576 .f32}
    {x3 : FVec Ideal S64x9 .f32} {x4 : FVec Ideal S8x4 .f32}
    {n1 : FVec Ideal S128x1600 .f32}
    {n2 n3 : FVec Ideal S1x64 .f32}
    {n4 : FVec Ideal S64x576 .f32}
    {n5 n6 n7 : IVec S576x576 32}
    {n8 : FVec Ideal S576x64 .f32}
    {n9 n10 n11 n12 n13 n14 n15 n16 n17 n18 n19 n20 n21 n22 n23 n24 n26 n27 n29 n30 n31 n32 n33 n34 n35 n36 n37 n38 n40 n41 n42 n43 n45 n46 n47 n48 n49 n50 n52 n53 n54 n55 n56 n57 n59 n60 n61 n62 n63 n64 n65 n67 n68 n69 n70 n71 n72 n76 n78 n79 n86 n88 n89 n90 : FVec Ideal S128x64 .f32}
    {n25 n39 n58 n66 n77 n87 : FVec Ideal S64x64 .f32}
    {n28 n44 n51 n74 n75 n82 n83 n85 n91 : FVec Ideal S128x9 .f32}
    {n73 n80 n81 n84 n92 n93 n94 n95 n96 n97 n98 : FVec Ideal S128x1 .f32}
    {n99 n100 nT n101 n102 : FVec Ideal S128x128 .f32}
    {n103 : FVec Ideal S128x1000 .f32}
    (hL0 : X A 0 L0) (hL1 : X A 1 L1) (hL2 : X A 2 L2) (hL3 : X A 3 L3) (hL4 : X A 4 L4) (hL5 : X A 5 L5) (hL6 : X A 6 L6) (hL7 : X A 7 L7) (hL8 : X A 8 L8) (hL9 : X A 9 L9) (hL10 : X A 10 L10) (hL11 : X A 11 L11) (hL12 : X A 12 L12) (hL13 : X A 13 L13) (hL14 : X A 14 L14) (hL15 : X A 15 L15) (hL16 : X A 16 L16) (hL17 : X A 17 L17) (hL18 : X A 18 L18) (hL19 : X A 19 L19) (hL20 : X A 20 L20) (hL21 : X A 21 L21) (hL22 : X A 22 L22) (hL23 : X A 23 L23) (hL24 : X A 24 L24)
    (hg : ∀ o : Fin 64, Lg (ix2 0 o) = A.g1 o) (hb : ∀ o : Fin 64, Lb (ix2 0 o) = A.b1 o) (he : ∀ o : Fin 64, Le (ix2 0 o) = A.e1 o)
    (hb3 : ∀ u : Fin 8, Lb3 (ix2 0 u) = A.b3 u) (hw4 : ∀ u : Fin 8, Lw4 (ix2 0 u) = A.w4 u)
    (hF : ∀ (n : Fin 128) (k : Fin 1600), LF (ix2 n k) = A.F n k)
    (ha : ∀ o : Fin 1000, Lg3 (ix2 0 o) = A.g3 o * Spec.bnc)
    (hc : ∀ o : Fin 1000, Le3 (ix2 0 o) = A.gb o * (A.g3 o * Spec.bnc) + A.e3 o)
    (h1 : ∀ (l : Fin 1600) (o : Fin 1000), x1 (ix2 l o) = A.gw l o)
    (h2 : ∀ (o c : Fin 64) (t : Fin 9), x2 (ix2 o ⟨c.val * 9 + t.val, by omega⟩) = A.w1 o c ⟨t.val / 3, by omega⟩ ⟨t.val % 3, by omega⟩)
    (h3 : W2 A x3) (h4 : ∀ (u : Fin 8) (k : Fin 4), x4 (ix2 u k) = A.w3 u k)
    (t0 : s0 = A.g2 * Spec.bnc) (t1 : s1 = A.b2 * (A.g2 * Spec.bnc) + A.e2) (t2 : s2 = A.b4 + Spec.eps)
    (t3 : s3 = A.al 0) (t4 : s4 = A.al 1) (t5 : s5 = A.al 2)
    (e103 : k0_pay1 s5 n1 n101 n102 x1 Lg3 Le3 = n103)
    (e102 : k0_pay107 s3 s4 n99 (iota Kind.tc S128x128 32 [0] iota_S128x128_d0_w32) (iota Kind.tc S128x128 32 [1] iota_S128x128_d1_w32) n100 nT = n102)
    (e101 : k0_pay106 n99 (iota Kind.tc S128x128 32 [0] iota_S128x128_d0_w32) (iota Kind.tc S128x128 32 [1] iota_S128x128_d1_w32) n100 nT = n101)
    (eT : Scf.fold (n := k0_t1_loop.trips) (fun _ a => k0_pay104 a) (k0_pay103 n99 n100) = nT)
    (e100 : k0_pay102 (F := Ideal) = n100)
    (e99 : k0_pay101 s0 s1 s2 n28 n44 n51 n73 n81 n84 n92 n94 n95 n96 n97 n98 x4 Lb3 Lw4 LF = n99)
    (e98 : k0_pay99 n75 = n98)
    (e97 : k0_pay98 s0 s1 n74 n75 n28 n91 n44 n51 = n97)
    (e96 : k0_pay97 s0 s1 n74 n75 n91 n44 = n96)
    (e95 : k0_pay96 s0 s1 n82 n83 n75 n28 n44 n51 = n95)
    (e94 : k0_pay95 s0 s1 n51 n93 = n94)
    (e93 : k0_pay94 n85 n82 n83 n74 n75 n28 n91 n44 = n93)
    (e92 : k0_pay93 s0 s1 n85 n82 n74 n75 n91 n44 = n92)
    (e91 : k0_pay86 n88 n90 x3 = n91)
    (e90 : k0_pay73 n8 n34 n2 n3 n89 = n90)
    (e89 : k0_pay72 n8 n31 n32 n33 = n89)
    (e88 : k0_pay64 n8 n33 n34 n2 n3 n86 n87 (constant S128x64 FTy.f32 0#32) = n88)
    (e87 : k0_pay63 n8 = n87)
    (e86 : k0_pay62 n8 n29 n30 n31 n32 = n86)
    (e85 : k0_pay80 n56 x3 = n85)
    (e84 : k0_pay92 s0 s1 n82 n83 n75 n28 = n84)
    (e83 : k0_pay82 n78 n79 x3 = n83)
    (e82 : k0_pay81 n59 n60 x3 = n82)
    (e81 : k0_pay91 s0 s1 n74 n75 n28 n80 = n81)
    (e80 : k0_pay90 n56 n59 n60 n78 n79 x3 = n80)
    (e79 : k0_pay42 n8 n10 n11 n13 n14 n2 n3 = n79)
    (e78 : k0_pay41 n14 n2 n3 n76 n77 (constant S128x64 FTy.f32 0#32) = n78)
    (e77 : k0_pay40 n8 = n77)
    (e76 : k0_pay39 n8 n9 n10 n11 n12 n13 = n76)
    (e75 : k0_pay84 n64 n67 n70 n72 x3 = n75)
    (e74 : k0_pay83 n63 n69 x3 = n74)
    (e73 : k0_pay89 s0 s1 n56 n59 n60 n63 n64 n67 n69 n70 n72 x3 = n73)
    (e72 : k0_pay57 n8 n30 n15 n16 n32 n23 n21 n2 n3 n71 = n72)
    (e71 : k0_pay56 n8 n55 n12 n13 = n71)
    (e70 : k0_pay55 n8 n54 n55 n12 n29 n30 n15 n31 n32 n23 n2 n3 = n70)
    (e69 : k0_pay54 n2 n3 n68 = n69)
    (e68 : k0_pay53 n8 n54 n55 n29 n30 n31 n32 = n68)
    (e67 : k0_pay49 n8 n12 n13 n30 n15 n16 n2 n3 n65 n66 (constant S128x64 FTy.f32 0#32) = n67)
    (e66 : k0_pay48 n8 = n66)
    (e65 : k0_pay47 n8 n53 n9 n10 n55 = n65)
    (e64 : k0_pay46 n8 n52 n53 n9 n54 n55 n12 n29 n30 n15 n2 n3 = n64)
    (e63 : k0_pay45 n61 n62 = n63)
    (e62 : k0_pay44 (F := Ideal) = n62)
    (e61 : k0_pay43 n8 n52 n53 n54 n55 n29 n30 n2 n3 = n61)
    (e60 : k0_pay38 n8 n53 n9 n10 n55 n12 n13 n2 n3 = n60)
    (e59 : k0_pay37 n12 n2 n3 n57 n58 (constant S128x64 FTy.f32 0#32) = n59)
    (e58 : k0_pay36 n8 = n58)
    (e57 : k0_pay35 n8 n52 n53 n9 n54 n55 = n57)
    (e56 : k0_pay34 n8 n52 n53 n54 n55 Lg Lb Le = n56)
    (e55 : k0_pay13 L6 = n55)
    (e54 : k0_pay12 L5 = n54)
    (e53 : k0_pay8 L1 = n53)
    (e52 : k0_pay7 L0 = n52)
    (e51 : k0_pay88 n47 n48 n49 n50 x3 = n51)
    (e50 : k0_pay78 n8 n21 n22 n37 n45 n2 n3 = n50)
    (e49 : k0_pay77 n8 n23 n21 n22 n35 n37 n45 n2 n3 = n49)
    (e48 : k0_pay71 n8 n16 n17 n21 n22 n37 n45 n2 n3 = n48)
    (e47 : k0_pay70 n8 n35 n37 n45 n2 n3 n46 = n47)
    (e46 : k0_pay69 n8 n15 n16 n17 n23 n21 n22 = n46)
    (e45 : k0_pay31 L24 = n45)
    (e44 : k0_pay87 n36 n40 n41 n43 x3 = n44)
    (e43 : k0_pay76 n8 n37 n2 n3 n42 = n43)
    (e42 : k0_pay75 n8 n32 n23 n21 n34 n35 = n42)
    (e41 : k0_pay74 n8 n31 n32 n23 n33 n34 n35 n2 n3 = n41)
    (e40 : k0_pay68 n8 n15 n16 n32 n23 n21 n34 n35 n37 n2 n3 n38 n39 (constant S128x64 FTy.f32 0#32) = n40)
    (e39 : k0_pay67 n8 = n39)
    (e38 : k0_pay66 n8 n30 = n38)
    (e37 : k0_pay30 L23 = n37)
    (e36 : k0_pay65 n8 n29 n30 n15 n31 n32 n23 n33 n34 n35 n2 n3 = n36)
    (e35 : k0_pay29 L22 = n35)
    (e34 : k0_pay28 L21 = n34)
    (e33 : k0_pay27 L20 = n33)
    (e32 : k0_pay23 L16 = n32)
    (e31 : k0_pay22 L15 = n31)
    (e30 : k0_pay18 L11 = n30)
    (e29 : k0_pay17 L10 = n29)
    (e28 : k0_pay85 n19 n20 n26 n27 x3 = n28)
    (e27 : k0_pay61 n8 n13 n14 n16 n17 n21 n22 n2 n3 = n27)
    (e26 : k0_pay60 n8 n21 n22 n2 n3 n24 n25 (constant S128x64 FTy.f32 0#32) = n26)
    (e25 : k0_pay59 n8 = n25)
    (e24 : k0_pay58 n8 n12 n13 n14 n15 n16 n17 n23 = n24)
    (e23 : k0_pay24 L17 = n23)
    (e22 : k0_pay26 L19 = n22)
    (e21 : k0_pay25 L18 = n21)
    (e20 : k0_pay52 n8 n10 n11 n13 n14 n16 n17 n2 n3 = n20)
    (e19 : k0_pay51 n2 n3 n18 = n19)
    (e18 : k0_pay50 n8 n9 n10 n11 n12 n13 n14 n15 n16 n17 = n18)
    (e17 : k0_pay21 L14 = n17)
    (e16 : k0_pay20 L13 = n16)
    (e15 : k0_pay19 L12 = n15)
    (e14 : k0_pay16 L9 = n14)
    (e13 : k0_pay15 L8 = n13)
    (e12 : k0_pay14 L7 = n12)
    (e11 : k0_pay11 L4 = n11)
    (e10 : k0_pay10 L3 = n10)
    (e9 : k0_pay9 L2 = n9)
    (e8 : k0_pay6 n4 (iota Kind.tc S576x576 32 [0] iota_S576x576_d0_w32) (iota Kind.tc S576x576 32 [1] iota_S576x576_d1_w32) n5 64#32 n6 n7 1#32 0#1 = n8)
    (e7 : k0_pay5 = n7)
    (e6 : k0_pay4 = n6)
    (e5 : k0_pay3 = n5)
    (e4 : k0_pay2 x2 = n4)
    (e3 : k0_pay33 Lg Lb Le = n3)
    (e2 : k0_pay32 Lg = n2)
    (e1 : k0_pay100 LF = n1) :
    ∀ (i : Fin 128) (j : Fin 1000), @Eq EReal (n103 (ix2 i j)) (Spec.out A i j) := by
  obtain ⟨fb1, fg1, fb2, fg2, fb3, fg3, hs, hf, hv⟩ := good
  have k0 : X A 0 n52 := by rw [← e52]; exact x_0 A hL0
  have k1 : X A 1 n53 := by rw [← e53]; exact x_1 A hL1
  have k2 : X A 2 n9 := by rw [← e9]; exact x_2 A hL2
  have k3 : X A 3 n10 := by rw [← e10]; exact x_3 A hL3
  have k4 : X A 4 n11 := by rw [← e11]; exact x_4 A hL4
  have k5 : X A 5 n54 := by rw [← e54]; exact x_5 A hL5
  have k6 : X A 6 n55 := by rw [← e55]; exact x_6 A hL6
  have k7 : X A 7 n12 := by rw [← e12]; exact x_7 A hL7
  have k8 : X A 8 n13 := by rw [← e13]; exact x_8 A hL8
  have k9 : X A 9 n14 := by rw [← e14]; exact x_9 A hL9
  have k10 : X A 10 n29 := by rw [← e29]; exact x_10 A hL10
  have k11 : X A 11 n30 := by rw [← e30]; exact x_11 A hL11
  have k12 : X A 12 n15 := by rw [← e15]; exact x_12 A hL12
  have k13 : X A 13 n16 := by rw [← e16]; exact x_13 A hL13
  have k14 : X A 14 n17 := by rw [← e17]; exact x_14 A hL14
  have k15 : X A 15 n31 := by rw [← e31]; exact x_15 A hL15
  have k16 : X A 16 n32 := by rw [← e32]; exact x_16 A hL16
  have k17 : X A 17 n23 := by rw [← e23]; exact x_17 A hL17
  have k18 : X A 18 n21 := by rw [← e21]; exact x_18 A hL18
  have k19 : X A 19 n22 := by rw [← e22]; exact x_19 A hL19
  have k20 : X A 20 n33 := by rw [← e33]; exact x_20 A hL20
  have k21 : X A 21 n34 := by rw [← e34]; exact x_21 A hL21
  have k22 : X A 22 n35 := by rw [← e35]; exact x_22 A hL22
  have k23 : X A 23 n37 := by rw [← e37]; exact x_23 A hL23
  have k24 : X A 24 n45 := by rw [← e45]; exact x_24 A hL24
  have w : W A n8 := by rw [← e8, ← e4, ← e5, ← e6, ← e7]; exact weights A x2 h2
  have sc : SC A n2 := by rw [← e2]; exact scale A hg
  have cb : CB A n3 := by rw [← e3]; exact offset A hg hb he
  have y00 : Y A 0 0 n56 := by rw [← e56]; exact y_0_0 A fb1 fg1 w k0 k1 k5 k6 hg hb he
  have y01 : Y A 0 1 n59 := by rw [← e59, ← e57, ← e58]; exact y_0_1 A fb1 fg1 w k0 k1 k2 k5 k6 k7 sc cb
  have y02 : Y A 0 2 n60 := by rw [← e60]; exact y_0_2 A fb1 fg1 w k1 k2 k3 k6 k7 k8 sc cb
  have y03 : Y A 0 3 n78 := by rw [← e78, ← e76, ← e77]; exact y_0_3 A fb1 fg1 w k2 k3 k4 k7 k8 k9 sc cb
  have y04 : Y A 0 4 n79 := by rw [← e79]; exact y_0_4 A fb1 fg1 w k3 k4 k8 k9 sc cb
  have y10 : Y A 1 0 n63 := by rw [← e63, ← e61, ← e62]; exact y_1_0 A fb1 fg1 w k0 k1 k5 k6 k10 k11 sc cb
  have y11 : Y A 1 1 n64 := by rw [← e64]; exact y_1_1 A fb1 fg1 w k0 k1 k2 k5 k6 k7 k10 k11 k12 sc cb
  have y12 : Y A 1 2 n67 := by rw [← e67, ← e65, ← e66]; exact y_1_2 A fb1 fg1 w k1 k2 k3 k6 k7 k8 k11 k12 k13 sc cb
  have y13 : Y A 1 3 n19 := by rw [← e19, ← e18]; exact y_1_3 A fb1 fg1 w k2 k3 k4 k7 k8 k9 k12 k13 k14 sc cb
  have y14 : Y A 1 4 n20 := by rw [← e20]; exact y_1_4 A fb1 fg1 w k3 k4 k8 k9 k13 k14 sc cb
  have y20 : Y A 2 0 n69 := by rw [← e69, ← e68]; exact y_2_0 A fb1 fg1 w k5 k6 k10 k11 k15 k16 sc cb
  have y21 : Y A 2 1 n70 := by rw [← e70]; exact y_2_1 A fb1 fg1 w k5 k6 k7 k10 k11 k12 k15 k16 k17 sc cb
  have y22 : Y A 2 2 n72 := by rw [← e72, ← e71]; exact y_2_2 A fb1 fg1 w k6 k7 k8 k11 k12 k13 k16 k17 k18 sc cb
  have y23 : Y A 2 3 n26 := by rw [← e26, ← e24, ← e25]; exact y_2_3 A fb1 fg1 w k7 k8 k9 k12 k13 k14 k17 k18 k19 sc cb
  have y24 : Y A 2 4 n27 := by rw [← e27]; exact y_2_4 A fb1 fg1 w k8 k9 k13 k14 k18 k19 sc cb
  have y30 : Y A 3 0 n88 := by rw [← e88, ← e86, ← e87]; exact y_3_0 A fb1 fg1 w k10 k11 k15 k16 k20 k21 sc cb
  have y31 : Y A 3 1 n36 := by rw [← e36]; exact y_3_1 A fb1 fg1 w k10 k11 k12 k15 k16 k17 k20 k21 k22 sc cb
  have y32 : Y A 3 2 n40 := by rw [← e40, ← e38, ← e39]; exact y_3_2 A fb1 fg1 w k11 k12 k13 k16 k17 k18 k21 k22 k23 sc cb
  have y33 : Y A 3 3 n47 := by rw [← e47, ← e46]; exact y_3_3 A fb1 fg1 w k12 k13 k14 k17 k18 k19 k22 k23 k24 sc cb
  have y34 : Y A 3 4 n48 := by rw [← e48]; exact y_3_4 A fb1 fg1 w k13 k14 k18 k19 k23 k24 sc cb
  have y40 : Y A 4 0 n90 := by rw [← e90, ← e89]; exact y_4_0 A fb1 fg1 w k15 k16 k20 k21 sc cb
  have y41 : Y A 4 1 n41 := by rw [← e41]; exact y_4_1 A fb1 fg1 w k15 k16 k17 k20 k21 k22 sc cb
  have y42 : Y A 4 2 n43 := by rw [← e43, ← e42]; exact y_4_2 A fb1 fg1 w k16 k17 k18 k21 k22 k23 sc cb
  have y43 : Y A 4 3 n49 := by rw [← e49]; exact y_4_3 A fb1 fg1 w k17 k18 k19 k22 k23 k24 sc cb
  have y44 : ∀ (n : Fin 128) (o : Fin 64), max (n50 (ix2 n o)) 0 = Spec.y A n o 4 4 := by rw [← e50]; exact y_4_4 A fb1 fg1 w k18 k19 k23 k24 sc cb
  have q00 : Q A 0 0 n85 := by rw [← e85]; exact q_0_0 A h3 y00
  have q01 : Q A 0 1 n82 := by rw [← e82]; exact q_0_1 A h3 y01 y02
  have q02 : Q A 0 2 n83 := by rw [← e83]; exact q_0_2 A h3 y03 y04
  have q10 : Q A 1 0 n74 := by rw [← e74]; exact q_1_0 A h3 y10 y20
  have q11 : Q A 1 1 n75 := by rw [← e75]; exact q_1_1 A h3 y11 y12 y21 y22
  have q12 : Q A 1 2 n28 := by rw [← e28]; exact q_1_2 A h3 y13 y14 y23 y24
  have q20 : Q A 2 0 n91 := by rw [← e91]; exact q_2_0 A h3 y30 y40
  have q21 : Q A 2 1 n44 := by rw [← e44]; exact q_2_1 A h3 y31 y32 y41 y42
  have q22 : Q A 2 2 n51 := by rw [← e51]; exact q_2_2 A h3 y33 y34 y43 y44
  have z00 : Z A 0 0 n73 := by
    rw [← e73]
    exact z_0_0 A fb2 fg2 t0 t1 (by rw [e85]; exact q00) (by rw [e82]; exact q01) (by rw [e74]; exact q10) (by rw [e75]; exact q11)
  have z01 : Z A 0 1 n81 := by
    rw [← e81, ← e80]
    exact z_0_1 A fb2 fg2 t0 t1 q10 q11 q12 (by rw [e85]; exact q00) (by rw [e82]; exact q01) (by rw [e83]; exact q02)
  have z02 : Z A 0 2 n84 := by
    rw [← e84]
    exact z_0_2 A fb2 fg2 t0 t1 q01 q02 q11 q12
  have z10 : Z A 1 0 n92 := by
    rw [← e92]
    exact z_1_0 A fb2 fg2 t0 t1 q00 q01 q10 q11 q20 q21
  have z11 : Z A 1 1 n94 := by
    rw [← e94, ← e93]
    exact z_1_1 A fb2 fg2 t0 t1 q00 q01 q02 q10 q11 q12 q20 q21 q22
  have z12 : Z A 1 2 n95 := by
    rw [← e95]
    exact z_1_2 A fb2 fg2 t0 t1 q01 q02 q11 q12 q21 q22
  have z20 : Z A 2 0 n96 := by
    rw [← e96]
    exact z_2_0 A fb2 fg2 t0 t1 q10 q11 q20 q21
  have z21 : Z A 2 1 n97 := by
    rw [← e97]
    exact z_2_1 A fb2 fg2 t0 t1 q10 q11 q12 q20 q21 q22
  have G : ∀ i j : Fin 128, @Eq EReal (n99 (ix2 i j)) (∑ k : Fin 1600, Spec.f A i k * Spec.f A j k) := by
    intro i j
    rw [← e99, ← e98]
    exact gram A fb2 fg2 t0 t1 t2 q11 q12 q21 q22 z00 z01 z02 z10 z11 z12 z20 z21 h4 hb3 hw4 hF hs i j
  subst e100
  have T : ∀ i j : Fin 128, @Eq EReal (nT (ix2 i j)) (Rank.after (Spec.ae A i) (((-1 : ℝ) : EReal)) 25 j) := by
    intro i j
    rw [← eT]
    exact looped A G hf rfl i j
  have S : ∀ i j : Fin 128, @Eq EReal (n101 (ix2 i j)) (∑ k, Spec.an A i k * Spec.an A k j) := by
    intro i j
    rw [← e101]
    exact square A G hf T hv i j
  have M : ∀ i j : Fin 128, @Eq EReal (n102 (ix2 i j)) (A.al 0 * one i j + A.al 1 * Spec.an A i j) := by
    intro i j
    rw [← e102]
    exact mix A G hf T hv t3 t4 i j
  intro i j
  rw [← e103, ← e1]
  exact last A t5 fb3 fg3 hF S M h1 ha hc i j

end Cert.K.Ker
-- ==== Proof.KerHost.lean ====
module

public import proofs.«01_k».proof.Proof.KerWhole
public import proofs.«01_k».proof.Proof.Gen.KernelIdeal.Value
public import Idealize.ShloMosaic.Lib.Pipeline.ValueKit
public import Idealize.ShloMosaic.Lib.Claim
public import Idealize.ShloMosaic.Lib.StableHlo.RunRead

/-! The arrays the kernel's region starts from, over the arguments. -/

@[expose] public section

set_option maxRecDepth 16384

noncomputable section

namespace Cert.K.Ker
open Cert.KernelIdeal Cert.KernelIdeal.Gen
open Idealize.ShloMosaic Idealize.ShloMosaic.TcCoe Idealize.SL.Sem Idealize.ShloMosaic.StableHlo

section Rows
variable {a0 a1 a2 a3 a4 a5 a6 a7 a8 a9 y : Ref sig .tc}

/-- A concatenation of three: each operand's contents at its own reference. -/
theorem nary3 (f : ((k : Fin 3) → ((![a0, a1, a2] : Fin 3 → Ref sig .tc) k).ty.Contents (Elt Ideal)) → y.ty.Contents (Elt Ideal)) (hx hy)
    (V : Valuation τ sig (Elt Ideal)) :
    (nary (τ := τ) ![a0, a1, a2] y f hx hy).result V (no_index (Proc.devRef .tc y))
      = f (Fin.cons (V (Proc.devRef .tc a0)) (Fin.cons (V (Proc.devRef .tc a1)) (Fin.cons (V (Proc.devRef .tc a2)) fun i => i.elim0))) := by
  rw [nary_result]
  congr 1
  funext k
  fin_cases k <;> rfl

/-- A concatenation of five. -/
theorem nary5 (f : ((k : Fin 5) → ((![a0, a1, a2, a3, a4] : Fin 5 → Ref sig .tc) k).ty.Contents (Elt Ideal)) → y.ty.Contents (Elt Ideal)) (hx hy)
    (V : Valuation τ sig (Elt Ideal)) :
    (nary (τ := τ) ![a0, a1, a2, a3, a4] y f hx hy).result V (no_index (Proc.devRef .tc y))
      = f (Fin.cons (V (Proc.devRef .tc a0)) (Fin.cons (V (Proc.devRef .tc a1)) (Fin.cons (V (Proc.devRef .tc a2))
          (Fin.cons (V (Proc.devRef .tc a3)) (Fin.cons (V (Proc.devRef .tc a4)) fun i => i.elim0))))) := by
  rw [nary_result]
  congr 1
  funext k
  fin_cases k <;> rfl

/-- A concatenation of ten. -/
theorem nary10 (f : ((k : Fin 10) → ((![a0, a1, a2, a3, a4, a5, a6, a7, a8, a9] : Fin 10 → Ref sig .tc) k).ty.Contents (Elt Ideal)) → y.ty.Contents (Elt Ideal)) (hx hy)
    (V : Valuation τ sig (Elt Ideal)) :
    (nary (τ := τ) ![a0, a1, a2, a3, a4, a5, a6, a7, a8, a9] y f hx hy).result V (no_index (Proc.devRef .tc y))
      = f (Fin.cons (V (Proc.devRef .tc a0)) (Fin.cons (V (Proc.devRef .tc a1)) (Fin.cons (V (Proc.devRef .tc a2))
          (Fin.cons (V (Proc.devRef .tc a3)) (Fin.cons (V (Proc.devRef .tc a4)) (Fin.cons (V (Proc.devRef .tc a5))
          (Fin.cons (V (Proc.devRef .tc a6)) (Fin.cons (V (Proc.devRef .tc a7)) (Fin.cons (V (Proc.devRef .tc a8))
          (Fin.cons (V (Proc.devRef .tc a9)) fun i => i.elim0)))))))))) := by
  rw [nary_result]
  congr 1
  funext k
  fin_cases k <;> rfl
end Rows

variable (m : (ℓ : Loc nD τ sig) → Buf (Elt Ideal) ℓ)

/-- The softmax of the three mixing weights. -/
def soft (a b c : FVec Ideal S1 .f32) : FVec Ideal S3 .f32 :=
  let x : FVec Ideal S3 .f32 := concatenate S3 0 [⟨S1, a⟩, ⟨S1, b⟩, ⟨S1, c⟩] concatenates_S1_S1_S1_S3_d0
  let e : FVec Ideal S3 .f32 := Host.exp (subf x (broadcastInDim S3 ![0] bcast_S1_S3_0 (broadcastInDim S1 ![] bcast_S_S1
    (maximumf (constant S_ .f32 0xFF800000#32) (Host.reduce FloatOps.maximumf x (constant S_ .f32 0xFF800000#32) reducesTo_S3_S_d0 h_S_)))))
  Host.divf e (broadcastInDim S3 ![0] bcast_S1_S3_0 (broadcastInDim S1 ![] bcast_S_S1
    (Host.reduceAdd e (constant S_ .f32 0x00000000#32) reducesTo_S3_S_d0 h_S_)))

/-- The eight scalars: the second batch norm's factor and offset, the divisor's offset, the mixing weights. -/
def scalars (g b e b4 a1 a2 a3 : FVec Ideal S1 .f32) : FVec Ideal S8 .f32 :=
  concatenate S8 0 [⟨S1, mulf g (broadcastInDim S1 ![] bcast_S_S1 (constant S_ .f32 0x3F7FFFAC#32))⟩,
    ⟨S1, addf (mulf b (mulf g (broadcastInDim S1 ![] bcast_S_S1 (constant S_ .f32 0x3F7FFFAC#32)))) e⟩,
    ⟨S1, addf b4 (broadcastInDim S1 ![] bcast_S_S1 (constant S_ .f32 0x25800000#32))⟩,
    ⟨S3, soft a1 a2 a3⟩, ⟨S2, broadcastInDim S2 ![] bcast_S_S2 (constant S_ .f32 0x00000000#32)⟩] concatenates_S1_S1_S1_S3_S2_S8_d0

/-- The last batch norm's factor. -/
def factor (g : FVec Ideal S1000 .f32) : FVec Ideal S1000 .f32 :=
  mulf g (broadcastInDim S1000 ![] bcast_S_S1000 (constant S_ .f32 0x3F7FFFAC#32))

/-- The three rows of parameters, laid end to end. -/
def params (g b e : FVec Ideal S64 .f32) (b3 : FVec Ideal S8 .f32) (w4 : FVec Ideal S1x8 .f32) (gb g3 e3 : FVec Ideal S1000 .f32) :
    FVec Ideal S4800 .f32 :=
  concatenate S4800 0 [⟨S64, g⟩, ⟨S64, b⟩, ⟨S64, e⟩, ⟨S8, b3⟩, ⟨S8, shapeCast S8 w4 shapeCasts_S1x8_S8⟩,
    ⟨S1392, broadcastInDim S1392 ![] bcast_S_S1392 (constant S_ .f32 0x00000000#32)⟩,
    ⟨S1000, factor g3⟩, ⟨S600, broadcastInDim S600 ![] bcast_S_S600 (constant S_ .f32 0x00000000#32)⟩,
    ⟨S1000, addf (mulf gb (factor g3)) e3⟩, ⟨S600, broadcastInDim S600 ![] bcast_S_S600 (constant S_ .f32 0x00000000#32)⟩]
    concatenates_S64_S64_S64_S8_S8_S1392_S1000_S600_S1000_S600_S4800_d0

/-- The kernel's first operand. -/
def packed (x : FVec Ideal S128x1600 .f32) (p : FVec Ideal S4800 .f32) : FVec Ideal S259x1600 .f32 :=
  concatenate S259x1600 0 [⟨S128x1600, shapeCast S128x1600 (transpose S128x25x64 [0, 2, 1]
      (shapeCast S128x64x25 x shapeCasts_S128x1600_S128x64x25) transposes_S128x64x25_S128x25x64_0_2_1) shapeCasts_S128x25x64_S128x1600⟩,
    ⟨S3x1600, shapeCast S3x1600 p shapeCasts_S4800_S3x1600⟩, ⟨S128x1600, x⟩] concatenates_S128x1600_S3x1600_S128x1600_S259x1600_d0

/-- Three vectors end to end. -/
def join3 (a b c : FVec Ideal S1 .f32) : FVec Ideal S3 .f32 :=
  concatenate S3 0 [⟨S1, a⟩, ⟨S1, b⟩, ⟨S1, c⟩] concatenates_S1_S1_S1_S3_d0

/-- The eight scalars, laid end to end. -/
def join8 (a b c : FVec Ideal S1 .f32) (d : FVec Ideal S3 .f32) (e : FVec Ideal S2 .f32) : FVec Ideal S8 .f32 :=
  concatenate S8 0 [⟨S1, a⟩, ⟨S1, b⟩, ⟨S1, c⟩, ⟨S3, d⟩, ⟨S2, e⟩] concatenates_S1_S1_S1_S3_S2_S8_d0

/-- The operand's three bands. -/
def stack (a : FVec Ideal S128x1600 .f32) (b : FVec Ideal S3x1600 .f32) (c : FVec Ideal S128x1600 .f32) : FVec Ideal S259x1600 .f32 :=
  concatenate S259x1600 0 [⟨S128x1600, a⟩, ⟨S3x1600, b⟩, ⟨S128x1600, c⟩] concatenates_S128x1600_S3x1600_S128x1600_S259x1600_d0

/-- The parameters and their gaps, laid end to end. -/
def join4800 (g b e : FVec Ideal S64 .f32) (p q : FVec Ideal S8 .f32) (z : FVec Ideal S1392 .f32) (s : FVec Ideal S1000 .f32)
    (z' : FVec Ideal S600 .f32) (t : FVec Ideal S1000 .f32) (z'' : FVec Ideal S600 .f32) : FVec Ideal S4800 .f32 :=
  concatenate S4800 0 [⟨S64, g⟩, ⟨S64, b⟩, ⟨S64, e⟩, ⟨S8, p⟩, ⟨S8, q⟩, ⟨S1392, z⟩, ⟨S1000, s⟩, ⟨S600, z'⟩, ⟨S1000, t⟩, ⟨S600, z''⟩]
    concatenates_S64_S64_S64_S8_S8_S1392_S1000_S600_S1000_S600_S4800_d0

theorem three (c : Dev nD) : upto hostOps0 (fun b => m (c, b)) 22 (Proc.devRef .tc main_v16)
    = join3 (m ((c : Thread nD τ).loc main_arg17)) (m ((c : Thread nD τ).loc main_arg18)) (m ((c : Thread nD τ).loc main_arg19)) := by
  simp (disch := decide) only [readAfter, readUpto, nullary_result', unary_result', binary_result', reshape_result', nary3, nary5, nary10]
  rfl

theorem scal (c : Dev nD) : V m c main_v32 = (scalars (m ((c : Thread nD τ).loc main_arg7)) (m ((c : Thread nD τ).loc main_arg6)) (m ((c : Thread nD τ).loc main_arg8)) (m ((c : Thread nD τ).loc main_arg12)) (m ((c : Thread nD τ).loc main_arg17)) (m ((c : Thread nD τ).loc main_arg18)) (m ((c : Thread nD τ).loc main_arg19))) := by
  unfold V
  simp (disch := decide) only [readAfter, readUpto, nullary_result', unary_result', binary_result', reshape_result', nary3, nary5, nary10]
  show join8 (upto hostOps0 (fun b => m (c, b)) 42 (Proc.devRef .tc main_v15)) (upto hostOps0 (fun b => m (c, b)) 42 (Proc.devRef .tc main_v28)) (upto hostOps0 (fun b => m (c, b)) 42 (Proc.devRef .tc main_v30)) (upto hostOps0 (fun b => m (c, b)) 42 (Proc.devRef .tc main_v26)) (upto hostOps0 (fun b => m (c, b)) 42 (Proc.devRef .tc main_v31)) = _
  simp (disch := decide) only [readAfter, readUpto, nullary_result', unary_result', binary_result', reshape_result', nary3, nary5, nary10]
  rfl

theorem line (c : Dev nD) : upto hostOps0 (fun b => m (c, b)) 16 (Proc.devRef .tc main_v11) = (params (m ((c : Thread nD τ).loc main_arg3)) (m ((c : Thread nD τ).loc main_arg2)) (m ((c : Thread nD τ).loc main_arg4)) (m ((c : Thread nD τ).loc main_arg10)) (m ((c : Thread nD τ).loc main_arg11)) (m ((c : Thread nD τ).loc main_arg14)) (m ((c : Thread nD τ).loc main_arg15)) (m ((c : Thread nD τ).loc main_arg16))) := by
  simp (disch := decide) only [readAfter, readUpto, nullary_result', unary_result', binary_result', reshape_result', nary3, nary5, nary10]
  show join4800 (upto hostOps0 (fun b => m (c, b)) 15 (Proc.devRef .tc main_arg3)) (upto hostOps0 (fun b => m (c, b)) 15 (Proc.devRef .tc main_arg2)) (upto hostOps0 (fun b => m (c, b)) 15 (Proc.devRef .tc main_arg4)) (upto hostOps0 (fun b => m (c, b)) 15 (Proc.devRef .tc main_arg10)) (upto hostOps0 (fun b => m (c, b)) 15 (Proc.devRef .tc main_v5)) (upto hostOps0 (fun b => m (c, b)) 15 (Proc.devRef .tc main_v6)) (upto hostOps0 (fun b => m (c, b)) 15 (Proc.devRef .tc main_v4)) (upto hostOps0 (fun b => m (c, b)) 15 (Proc.devRef .tc main_v7)) (upto hostOps0 (fun b => m (c, b)) 15 (Proc.devRef .tc main_v9)) (upto hostOps0 (fun b => m (c, b)) 15 (Proc.devRef .tc main_v10)) = _
  simp (disch := decide) only [readAfter, readUpto, nullary_result', unary_result', binary_result', reshape_result', nary3, nary5, nary10]
  rfl

theorem big (c : Dev nD) : V m c main_v13 = packed (m ((c : Thread nD τ).loc main_arg0)) (params (m ((c : Thread nD τ).loc main_arg3)) (m ((c : Thread nD τ).loc main_arg2)) (m ((c : Thread nD τ).loc main_arg4)) (m ((c : Thread nD τ).loc main_arg10)) (m ((c : Thread nD τ).loc main_arg11)) (m ((c : Thread nD τ).loc main_arg14)) (m ((c : Thread nD τ).loc main_arg15)) (m ((c : Thread nD τ).loc main_arg16))) := by
  unfold V
  simp (disch := decide) only [readAfter, readUpto, nullary_result', unary_result', binary_result', reshape_result', nary3, nary5, nary10]
  show stack (upto hostOps0 (fun b => m (c, b)) 17 (Proc.devRef .tc main_v2)) (upto hostOps0 (fun b => m (c, b)) 17 (Proc.devRef .tc main_v12)) (upto hostOps0 (fun b => m (c, b)) 17 (Proc.devRef .tc main_arg0)) = _
  have h12 : upto hostOps0 (fun b => m (c, b)) 17 (Proc.devRef .tc main_v12) = shapeCast S3x1600 (params (m ((c : Thread nD τ).loc main_arg3)) (m ((c : Thread nD τ).loc main_arg2)) (m ((c : Thread nD τ).loc main_arg4)) (m ((c : Thread nD τ).loc main_arg10)) (m ((c : Thread nD τ).loc main_arg11)) (m ((c : Thread nD τ).loc main_arg14)) (m ((c : Thread nD τ).loc main_arg15)) (m ((c : Thread nD τ).loc main_arg16))) shapeCasts_S4800_S3x1600 := by
    rw [← line m c]
    simp (disch := decide) only [readAfter, readUpto, reshape_result']
    rfl
  rw [h12]
  simp (disch := decide) only [readAfter, readUpto, nullary_result', unary_result', binary_result', reshape_result', nary3, nary5, nary10]
  rfl
end Cert.K.Ker
-- ==== Proof.KerBody.lean ====
module

public import proofs.«01_k».proof.Proof.KerWhole
public import proofs.«01_k».proof.Proof.KerHost
public import proofs.«01_k».proof.Proof.Gen.KernelIdeal.Value
public import Idealize.ShloMosaic.Lib.Pipeline.ValueKit
public import Idealize.ShloMosaic.Lib.Claim

/-! The kernel's result array after the run. -/

@[expose] public section

set_option maxRecDepth 16384

noncomputable section

namespace Cert.K.Ker
open Cert.KernelIdeal Cert.KernelIdeal.Gen
open Idealize.ShloMosaic Idealize.ShloMosaic.TcCoe Idealize.SL.Sem

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0] ∧ win0_6.index t = ![0, 0] :=
  (by decide +kernel : ∀ t : Fin grid0.N, _)

theorem blk0 (c : Dev nD) (t) : iblk m c 0 t = V m c main_v13 := by blk_ext! [iblk, idx t]
theorem blk1 (c : Dev nD) (t) : iblk m c 1 t = m ((c : Thread nD τ).loc main_arg13) := by blk_ext! [iblk, V, idx t]
theorem blk2 (c : Dev nD) (t) : iblk m c 2 t = shapeCast (α := EReal) S64x576 (m ((c : Thread nD τ).loc main_arg1)) shapeCasts_S64x64x3x3_S64x576 := by
  have h : V m c main_v33 = shapeCast (α := EReal) S64x576 (m ((c : Thread nD τ).loc main_arg1)) shapeCasts_S64x64x3x3_S64x576 := by entry_read; rfl
  refine Eq.trans ?_ h
  blk_ext! [iblk, idx t]
theorem blk3 (c : Dev nD) (t) : iblk m c 3 t = shapeCast (α := EReal) S64x9 (m ((c : Thread nD τ).loc main_arg5)) shapeCasts_S1x64x3x3_S64x9 := by
  have h : V m c main_v34 = shapeCast (α := EReal) S64x9 (m ((c : Thread nD τ).loc main_arg5)) shapeCasts_S1x64x3x3_S64x9 := by entry_read; rfl
  refine Eq.trans ?_ h
  blk_ext! [iblk, idx t]
theorem blk4 (c : Dev nD) (t) : iblk m c 4 t = m ((c : Thread nD τ).loc main_arg9) := by blk_ext! [iblk, V, idx t]
theorem blk5 (c : Dev nD) (t) : iblk m c 5 t = V m c main_v32 := by blk_ext! [iblk, idx t]

/-- The features' regrouped copy. -/
theorem packed_top (x : FVec Ideal S128x1600 .f32) (p : FVec Ideal S4800 .f32) (n : Fin 128) (q : Fin 25) (c : Fin 64) :
    @Eq EReal (packed x p (ix2 ⟨n.val, by omega⟩ ⟨q.val * 64 + c.val, by omega⟩)) (x (ix2 n ⟨c.val * 25 + q.val, by omega⟩)) := by
  pointwise [packed]
  all_goals (split_ifs <;> first | (exfalso; omega) | blk_point [])

theorem packed_params (x : FVec Ideal S128x1600 .f32) (p : FVec Ideal S4800 .f32) (r : Fin 3) (k : Fin 1600) :
    @Eq EReal (packed x p (ix2 ⟨128 + r.val, by omega⟩ k)) (p (ix1 ⟨r.val * 1600 + k.val, by omega⟩)) := by
  pointwise [packed]
  all_goals (split_ifs <;> first | (exfalso; omega) | blk_point [])

theorem packed_rest (x : FVec Ideal S128x1600 .f32) (p : FVec Ideal S4800 .f32) (n : Fin 128) (k : Fin 1600) :
    @Eq EReal (packed x p (ix2 ⟨131 + n.val, by omega⟩ k)) (x (ix2 n k)) := by
  pointwise [packed]
  all_goals (split_ifs <;> first | (exfalso; omega) | blk_point [])
section
variable (g b e : FVec Ideal S64 .f32) (b3 : FVec Ideal S8 .f32) (w4 : FVec Ideal S1x8 .f32) (gb g3 e3 : FVec Ideal S1000 .f32)
theorem params_g (o : Fin 64) : @Eq EReal (params g b e b3 w4 gb g3 e3 (ix1 ⟨o.val, by omega⟩)) (g (ix1 o)) := by
  pointwise [params]
  all_goals (split_ifs <;> first | (exfalso; omega) | blk_point [])
theorem params_b (o : Fin 64) : @Eq EReal (params g b e b3 w4 gb g3 e3 (ix1 ⟨64 + o.val, by omega⟩)) (b (ix1 o)) := by
  pointwise [params]
  all_goals (split_ifs <;> first | (exfalso; omega) | blk_point [])
theorem params_e (o : Fin 64) : @Eq EReal (params g b e b3 w4 gb g3 e3 (ix1 ⟨128 + o.val, by omega⟩)) (e (ix1 o)) := by
  pointwise [params]
  all_goals (split_ifs <;> first | (exfalso; omega) | blk_point [])
theorem params_b3 (o : Fin 8) : @Eq EReal (params g b e b3 w4 gb g3 e3 (ix1 ⟨192 + o.val, by omega⟩)) (b3 (ix1 o)) := by
  pointwise [params]
  all_goals (split_ifs <;> first | (exfalso; omega) | blk_point [])
theorem params_w4 (o : Fin 8) : @Eq EReal (params g b e b3 w4 gb g3 e3 (ix1 ⟨200 + o.val, by omega⟩)) (w4 (ix2 0 o)) := by
  pointwise [params]
  all_goals (split_ifs <;> first | (exfalso; omega) | blk_point [])
theorem params_g3 (o : Fin 1000) : @Eq EReal (params g b e b3 w4 gb g3 e3 (ix1 ⟨1600 + o.val, by omega⟩)) (g3 (ix1 o) * Spec.bnc) := by
  pointwise [params, factor, Spec.bnc]
  all_goals (split_ifs <;> first | (exfalso; omega) | blk_point [])
theorem params_e3 (o : Fin 1000) : @Eq EReal (params g b e b3 w4 gb g3 e3 (ix1 ⟨3200 + o.val, by omega⟩))
    (gb (ix1 o) * (g3 (ix1 o) * Spec.bnc) + e3 (ix1 o)) := by
  pointwise [params, factor, Spec.bnc]
  all_goals (split_ifs <;> first | (exfalso; omega) | blk_point [])
end

/-- The arguments, read at their coordinates. -/
def kargs (c : Dev nD) : Spec.Args where
  F n k := (m ((c : Thread nD τ).loc main_arg0)) (ix2 n k)
  w1 o k a b := (m ((c : Thread nD τ).loc main_arg1)) (ix4 o k a b)
  b1 o := (m ((c : Thread nD τ).loc main_arg2)) (ix1 o)
  g1 o := (m ((c : Thread nD τ).loc main_arg3)) (ix1 o)
  e1 o := (m ((c : Thread nD τ).loc main_arg4)) (ix1 o)
  w2 k a b := (m ((c : Thread nD τ).loc main_arg5)) (ix4 0 k a b)
  b2 := (m ((c : Thread nD τ).loc main_arg6)) (ix1 0)
  g2 := (m ((c : Thread nD τ).loc main_arg7)) (ix1 0)
  e2 := (m ((c : Thread nD τ).loc main_arg8)) (ix1 0)
  w3 u k := (m ((c : Thread nD τ).loc main_arg9)) (ix2 u k)
  b3 u := (m ((c : Thread nD τ).loc main_arg10)) (ix1 u)
  w4 u := (m ((c : Thread nD τ).loc main_arg11)) (ix2 0 u)
  b4 := (m ((c : Thread nD τ).loc main_arg12)) (ix1 0)
  gw l o := (m ((c : Thread nD τ).loc main_arg13)) (ix2 l o)
  gb o := (m ((c : Thread nD τ).loc main_arg14)) (ix1 o)
  g3 o := (m ((c : Thread nD τ).loc main_arg15)) (ix1 o)
  e3 o := (m ((c : Thread nD τ).loc main_arg16)) (ix1 o)
  al t := soft (m ((c : Thread nD τ).loc main_arg17)) (m ((c : Thread nD τ).loc main_arg18)) (m ((c : Thread nD τ).loc main_arg19)) (ix1 t)

theorem body (A : Spec.Args) (good : Good A) (c : Dev nD) (arg0 : Memref sig .tc .vmem S259x1600 .f32) (harg0 : arg0.IsWhole) (arg1 : Memref sig .tc .vmem S1600x1000 .f32) (harg1 : arg1.IsWhole) (arg2 : Memref sig .tc .vmem S64x576 .f32) (harg2 : arg2.IsWhole) (arg3 : Memref sig .tc .vmem S64x9 .f32) (harg3 : arg3.IsWhole) (arg4 : Memref sig .tc .vmem S8x4 .f32) (harg4 : arg4.IsWhole) (arg5 : Memref sig .tc .smem S8 .f32) (harg5 : arg5.IsWhole) (arg6 : Memref sig .tc .vmem S128x1000 .f32) (harg6 : arg6.IsWhole)
    (x0 : Vec Ideal S259x1600 .f32) (x1 : Vec Ideal S1600x1000 .f32) (x2 : Vec Ideal S64x576 .f32) (x3 : Vec Ideal S64x9 .f32) (x4 : Vec Ideal S8x4 .f32) (x5 : Vec Ideal S8 .f32)
    (hx : ∀ (n : Fin 128) (q : Fin 25) (c : Fin 64), @Eq EReal (x0 (ix2 ⟨n.val, by omega⟩ ⟨q.val * 64 + c.val, by omega⟩)) (A.F n ⟨c.val * 25 + q.val, by omega⟩))
    (hg : ∀ o : Fin 64, @Eq EReal (x0 (ix2 128 ⟨o.val, by omega⟩)) (A.g1 o))
    (hb : ∀ o : Fin 64, @Eq EReal (x0 (ix2 128 ⟨64 + o.val, by omega⟩)) (A.b1 o))
    (he : ∀ o : Fin 64, @Eq EReal (x0 (ix2 128 ⟨128 + o.val, by omega⟩)) (A.e1 o))
    (hb3 : ∀ o : Fin 8, @Eq EReal (x0 (ix2 128 ⟨192 + o.val, by omega⟩)) (A.b3 o))
    (hw4 : ∀ o : Fin 8, @Eq EReal (x0 (ix2 128 ⟨200 + o.val, by omega⟩)) (A.w4 o))
    (hF : ∀ (n : Fin 128) (k : Fin 1600), @Eq EReal (x0 (ix2 ⟨131 + n.val, by omega⟩ k)) (A.F n k))
    (ha : ∀ o : Fin 1000, @Eq EReal (x0 (ix2 129 ⟨o.val, by omega⟩)) (A.g3 o * Spec.bnc))
    (hc : ∀ o : Fin 1000, @Eq EReal (x0 (ix2 130 ⟨o.val, by omega⟩)) (A.gb o * (A.g3 o * Spec.bnc) + A.e3 o))
    (h1 : ∀ (l : Fin 1600) (o : Fin 1000), @Eq EReal (x1 (ix2 l o)) (A.gw l o))
    (h2 : ∀ (o c : Fin 64) (t : Fin 9), @Eq EReal (x2 (ix2 o ⟨c.val * 9 + t.val, by omega⟩)) (A.w1 o c ⟨t.val / 3, by omega⟩ ⟨t.val % 3, by omega⟩))
    (h3 : W2 A x3) (h4 : ∀ (u : Fin 8) (k : Fin 4), @Eq EReal (x4 (ix2 u k)) (A.w3 u k))
    (t0 : @Eq EReal (x5 (ix1 0)) (A.g2 * Spec.bnc)) (t1 : @Eq EReal (x5 (ix1 1)) (A.b2 * (A.g2 * Spec.bnc) + A.e2)) (t2 : @Eq EReal (x5 (ix1 2)) (A.b4 + Spec.eps))
    (t3 : @Eq EReal (x5 (ix1 3)) (A.al 0)) (t4 : @Eq EReal (x5 (ix1 4)) (A.al 1)) (t5 : @Eq EReal (x5 (ix1 5)) (A.al 2)) (i : Fin 128) (j : Fin 1000) :
    @Eq EReal (out0_A_6 c arg0 harg0 arg1 harg1 arg2 harg2 arg3 harg3 arg4 harg4 arg5 harg5 arg6 harg6 x0 x1 x2 x3 x4 x5 (ix2 i j)) (Spec.out A i j) := by
  frame_out
  refine whole A good ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl i j
  · intro n c; pointwise; simpa using hx n 0 c
  · intro n c; pointwise; exact hx n 1 c
  · intro n c; pointwise; exact hx n 2 c
  · intro n c; pointwise; exact hx n 3 c
  · intro n c; pointwise; exact hx n 4 c
  · intro n c; pointwise; exact hx n 5 c
  · intro n c; pointwise; exact hx n 6 c
  · intro n c; pointwise; exact hx n 7 c
  · intro n c; pointwise; exact hx n 8 c
  · intro n c; pointwise; exact hx n 9 c
  · intro n c; pointwise; exact hx n 10 c
  · intro n c; pointwise; exact hx n 11 c
  · intro n c; pointwise; exact hx n 12 c
  · intro n c; pointwise; exact hx n 13 c
  · intro n c; pointwise; exact hx n 14 c
  · intro n c; pointwise; exact hx n 15 c
  · intro n c; pointwise; exact hx n 16 c
  · intro n c; pointwise; exact hx n 17 c
  · intro n c; pointwise; exact hx n 18 c
  · intro n c; pointwise; exact hx n 19 c
  · intro n c; pointwise; exact hx n 20 c
  · intro n c; pointwise; exact hx n 21 c
  · intro n c; pointwise; exact hx n 22 c
  · intro n c; pointwise; exact hx n 23 c
  · intro n c; pointwise; exact hx n 24 c
  · intro o; pointwise; exact hg o
  · intro o; pointwise; exact hb o
  · intro o; pointwise; exact he o
  · intro o; pointwise; exact hb3 o
  · intro o; pointwise; exact hw4 o
  · intro n k; pointwise; exact hF n k
  · intro o; pointwise; exact ha o
  · intro o; pointwise; exact hc o
  · exact h1
  · exact h2
  · exact h3
  · exact h4
  · refine Eq.trans ?_ t0; pointwise
  · refine Eq.trans ?_ t1; pointwise
  · refine Eq.trans ?_ t2; pointwise
  · refine Eq.trans ?_ t3; pointwise
  · refine Eq.trans ?_ t4; pointwise
  · refine Eq.trans ?_ t5; pointwise
end Cert.K.Ker
-- ==== Proof.KerFinal.lean ====
module

public import proofs.«01_k».proof.Proof.KerBody

/-! The kernel's result array after the run. -/

@[expose] public section

set_option maxRecDepth 16384

noncomputable section

namespace Cert.K.Ker
open Cert.KernelIdeal Cert.KernelIdeal.Gen
open Idealize.ShloMosaic Idealize.ShloMosaic.TcCoe Idealize.SL.Sem

variable (m : (ℓ : Loc nD τ sig) → Buf (Elt Ideal) ℓ)

theorem shape_w1 (w : FVec Ideal S64x64x3x3 .f32) (o k : Fin 64) (t : Fin 9) :
    @Eq EReal (shapeCast (α := EReal) S64x576 w shapeCasts_S64x64x3x3_S64x576 (ix2 o ⟨k.val * 9 + t.val, by omega⟩)) (w (ix4 o k ⟨t.val / 3, by omega⟩ ⟨t.val % 3, by omega⟩)) := by
  pointwise
  all_goals blk_ext []
theorem shape_w2 (w : FVec Ideal S1x64x3x3 .f32) (k : Fin 64) (t : Fin 9) :
    @Eq EReal (shapeCast (α := EReal) S64x9 w shapeCasts_S1x64x3x3_S64x9 (ix2 k t)) (w (ix4 0 k ⟨t.val / 3, by omega⟩ ⟨t.val % 3, by omega⟩)) := by
  pointwise
  all_goals blk_ext []
theorem scal_0 (g b e b4 a1 a2 a3 : FVec Ideal S1 .f32) : @Eq EReal (scalars g b e b4 a1 a2 a3 (ix1 0)) (g (ix1 0) * Spec.bnc) := by
  pointwise [scalars, Spec.bnc, Spec.eps]
theorem scal_1 (g b e b4 a1 a2 a3 : FVec Ideal S1 .f32) : @Eq EReal (scalars g b e b4 a1 a2 a3 (ix1 1)) (b (ix1 0) * (g (ix1 0) * Spec.bnc) + e (ix1 0)) := by
  pointwise [scalars, Spec.bnc, Spec.eps]
theorem scal_2 (g b e b4 a1 a2 a3 : FVec Ideal S1 .f32) : @Eq EReal (scalars g b e b4 a1 a2 a3 (ix1 2)) (b4 (ix1 0) + Spec.eps) := by
  pointwise [scalars, Spec.bnc, Spec.eps]
theorem scal_3 (g b e b4 a1 a2 a3 : FVec Ideal S1 .f32) : @Eq EReal (scalars g b e b4 a1 a2 a3 (ix1 3)) (soft a1 a2 a3 (ix1 0)) := by
  pointwise [scalars, Spec.bnc, Spec.eps]
theorem scal_4 (g b e b4 a1 a2 a3 : FVec Ideal S1 .f32) : @Eq EReal (scalars g b e b4 a1 a2 a3 (ix1 4)) (soft a1 a2 a3 (ix1 1)) := by
  pointwise [scalars, Spec.bnc, Spec.eps]
theorem scal_5 (g b e b4 a1 a2 a3 : FVec Ideal S1 .f32) : @Eq EReal (scalars g b e b4 a1 a2 a3 (ix1 5)) (soft a1 a2 a3 (ix1 2)) := by
  pointwise [scalars, Spec.bnc, Spec.eps]

theorem final (c : Dev nD) (good : Good (kargs m c)) :
    (dats m 0 c).arrAt 6 (cfgs 0).N = (fun y => Spec.out (kargs m c) (y 0) (y 1) : FVec Ideal S128x1000 .f32) := by
  refine (dats m 0 c).arrAt_eq_of_after_last 6 t0_0 (by decide +kernel) _ fun j => ?_
  blk_simp
  rw [after0_6]
  unfold outsAt0
  rw [blk0, blk1, blk2, blk3, blk4, blk5, big, scal]
  obtain ⟨i, o, rfl⟩ : ∃ (i : Fin 128) (o : Fin 1000), j = ix2 i o := ⟨j 0, j 1, by funext a; fin_cases a <;> rfl⟩
  refine body (kargs m c) good c _ _ _ _ _ _ _ _ _ _ _ _ _ _ _ _ _ _ _ _ ?_ ?_ ?_ ?_ ?_ ?_ ?_ ?_ ?_ ?_ ?_ ?_ ?_ ?_ ?_ ?_ ?_ ?_ ?_ i o
  · intro n q k; exact packed_top _ _ n q k
  · intro o; exact (packed_params _ _ 0 ⟨o.val, by omega⟩).trans ((congrArg (params _ _ _ _ _ _ _ _) (by blk_ext [])).trans (params_g _ _ _ _ _ _ _ _ o))
  · intro o; exact (packed_params _ _ 0 ⟨64 + o.val, by omega⟩).trans ((congrArg (params _ _ _ _ _ _ _ _) (by blk_ext [])).trans (params_b _ _ _ _ _ _ _ _ o))
  · intro o; exact (packed_params _ _ 0 ⟨128 + o.val, by omega⟩).trans ((congrArg (params _ _ _ _ _ _ _ _) (by blk_ext [])).trans (params_e _ _ _ _ _ _ _ _ o))
  · intro o; exact (packed_params _ _ 0 ⟨192 + o.val, by omega⟩).trans ((congrArg (params _ _ _ _ _ _ _ _) (by blk_ext [])).trans (params_b3 _ _ _ _ _ _ _ _ o))
  · intro o; exact (packed_params _ _ 0 ⟨200 + o.val, by omega⟩).trans ((congrArg (params _ _ _ _ _ _ _ _) (by blk_ext [])).trans (params_w4 _ _ _ _ _ _ _ _ o))
  · intro n k; exact packed_rest _ _ n k
  · intro o; exact (packed_params _ _ 1 ⟨o.val, by omega⟩).trans (params_g3 _ _ _ _ _ _ _ _ o)
  · intro o; exact (packed_params _ _ 2 ⟨o.val, by omega⟩).trans (params_e3 _ _ _ _ _ _ _ _ o)
  · intro l o; rfl
  · intro o k t; exact shape_w1 _ o k t
  · intro k t; exact shape_w2 _ k t
  · intro u k; rfl
  · exact scal_0 _ _ _ _ _ _ _
  · exact scal_1 _ _ _ _ _ _ _
  · exact scal_2 _ _ _ _ _ _ _
  · exact scal_3 _ _ _ _ _ _ _
  · exact scal_4 _ _ _ _ _ _ _
  · exact scal_5 _ _ _ _ _ _ _
end Cert.K.Ker
-- ==== Proof.RefConv.lean ====
module

public import proofs.«01_k».proof.Proof.Gen.ReferenceIdeal.Run
public import proofs.«01_k».proof.Proof.Spec

/-! The reference's stages read at an index: the relation network. -/

@[expose] public section

set_option maxRecDepth 16384

noncomputable section

namespace Cert.K.Ref
open Cert.ReferenceIdeal Cert.ReferenceIdeal.Value
open Idealize.ShloMosaic Idealize.ShloMosaic.TcCoe Idealize.SL.Sem

variable (V : Valuation τ sig (Elt Ideal))

theorem sitofp_zero : FloatOps.sitofp (F := Ideal) .f32 (0#32 : BitVec 32) = (0 : EReal) := by
  show (((0#32 : BitVec 32).toInt : ℝ) : EReal) = 0
  simp

theorem ninf : Ideal.ofBits .f32 0xFF800000#32 = (⊥ : EReal) := by
  simp [Ideal.ofBits, Ideal.ieee]

/-- A position is inside a border of one on the two image axes. -/
theorem pad_side (g sz : Fin 4 → ℕ) (h0 : g 0 < sz 0) (h1 : g 1 < sz 1) :
    (∀ a : Fin 4, (![0, 0, 1, 1] : Fin 4 → ℕ) a ≤ g a
        ∧ (g a - (![0, 0, 1, 1] : Fin 4 → ℕ) a) % ((![0, 0, 0, 0] : Fin 4 → ℕ) a + 1) = 0
        ∧ (g a - (![0, 0, 1, 1] : Fin 4 → ℕ) a) / ((![0, 0, 0, 0] : Fin 4 → ℕ) a + 1) < sz a)
      ↔ (1 ≤ g 2 ∧ g 2 - 1 < sz 2) ∧ 1 ≤ g 3 ∧ g 3 - 1 < sz 3 := by
  simp [Fin.forall_fin_succ, Nat.mod_one, h0, h1, and_assoc]

theorem ninf_first : (id (constant (F := Ideal) S_ .f32 0xFF800000#32) (Shape.Idx.first Gen.h_S_)) = (⊥ : EReal) := ninf

/-- The arguments of the reference. -/
def args : Spec.Args where
  F n k := V (Proc.devRef .tc main_arg0) (ix2 n k)
  w1 o c a b := V (Proc.devRef .tc main_arg1) (ix4 o c a b)
  b1 o := V (Proc.devRef .tc main_arg2) (ix1 o)
  g1 o := V (Proc.devRef .tc main_arg3) (ix1 o)
  e1 o := V (Proc.devRef .tc main_arg4) (ix1 o)
  w2 c a b := V (Proc.devRef .tc main_arg5) (ix4 0 c a b)
  b2 := V (Proc.devRef .tc main_arg6) (ix1 0)
  g2 := V (Proc.devRef .tc main_arg7) (ix1 0)
  e2 := V (Proc.devRef .tc main_arg8) (ix1 0)
  w3 u k := V (Proc.devRef .tc main_arg9) (ix2 u k)
  b3 u := V (Proc.devRef .tc main_arg10) (ix1 u)
  w4 u := V (Proc.devRef .tc main_arg11) (ix2 0 u)
  b4 := V (Proc.devRef .tc main_arg12) (ix1 0)
  gw l o := V (Proc.devRef .tc main_arg13) (ix2 l o)
  gb o := V (Proc.devRef .tc main_arg14) (ix1 o)
  g3 o := V (Proc.devRef .tc main_arg15) (ix1 o)
  e3 o := V (Proc.devRef .tc main_arg16) (ix1 o)
  al t := res_main_v233 V (ix1 t)

theorem v1_at (n : Fin 128) (c : Fin 64) (u v : Fin 7) :
    @Eq EReal (res_main_v1 V (ix4 n c u v)) (Spec.xpad (args V) n c u v) := by
  pointwise [res_main_v1, Spec.xpad, args]
  simp only [sitofp_zero]

theorem v59_at (n : Fin 128) (o : Fin 64) (i j : Fin 5) :
    @Eq EReal (res_main_v59 V (ix4 n o i j)) (Spec.conv1 (args V) n o i j + (args V).b1 o) := by
  pointwise [res_main_v59, v1_at]
  simp only [Spec.conv1, Spec.tap1]
  rfl

theorem v70_at (n : Fin 128) (o : Fin 64) (i j : Fin 7) :
    @Eq EReal (res_main_v70 V (ix4 n o i j)) (Spec.ypad (args V) n o i j) := by
  pointwise [res_main_v70, v59_at, Spec.ypad, Spec.y, Spec.bnrelu]
  simp only [ninf_first]
  rw [dite_eq_ite]
  refine if_congr ?_ rfl rfl
  exact pad_side _ _ n.isLt o.isLt

theorem v78_at (n : Fin 128) (o : Fin 64) (i j : Fin 5) :
    @Eq EReal (res_main_v78 V (ix4 n o i j)) (Spec.ppad (args V) n o i j) := by
  pointwise [res_main_v78, v70_at, Spec.ppad, Spec.p]
  simp only [sitofp_zero]
  rfl

theorem v140_at (n : Fin 128) (i j : Fin 3) :
    @Eq EReal (res_main_v140 V (ix4 n 0 i j)) ((Spec.conv2 (args V) n i j + (args V).b2) * Spec.bnc) := by
  pointwise [res_main_v140, v78_at]
  simp only [Spec.conv2, Spec.tap2]
  rfl

theorem v147_at (n : Fin 128) (i j : Fin 5) :
    @Eq EReal (res_main_v147 V (ix4 n 0 i j)) (Spec.zpad (args V) n i j) := by
  pointwise [res_main_v147, v140_at, Spec.zpad, Spec.z, Spec.bnrelu]
  simp only [ninf_first]
  rw [dite_eq_ite]
  refine if_congr ?_ rfl rfl
  exact pad_side _ _ n.isLt Nat.one_pos

theorem v171_at (n : Fin 128) (k : Fin 1600) :
    @Eq EReal (res_main_v171 V (ix2 n k)) (Spec.f (args V) n k) := by
  pointwise [res_main_v171, v147_at, Spec.f, Spec.s, Spec.h3]
  rfl

theorem v180_at (i j : Fin 128)  :
    @Eq EReal (res_main_v180 V (ix2 i j)) (Spec.ae (args V) i j) := by
  pointwise [res_main_v180, res_main_v176, v171_at, Spec.ae, Spec.d2]

end Cert.K.Ref
-- ==== Proof.RefAdj.lean ====
module

public import proofs.«01_k».proof.Proof.RefConv
public import proofs.«01_k».proof.Proof.Rank
public import Idealize.ShloMosaic.Lib.Routing.OpsPair
public import Idealize.ShloMosaic.Lib.Routing.OpsSet

/-! The reference's stages read at an index: the neighbours, the adjacency and the layer. -/

@[expose] public section

set_option maxRecDepth 16384

noncomputable section

namespace Cert.K.Ref
open Cert.ReferenceIdeal Cert.ReferenceIdeal.Value
open Idealize.ShloMosaic Idealize.ShloMosaic.TcCoe Idealize.SL.Sem

variable (V : Valuation τ sig (Elt Ideal))

theorem along_ix2 (i k0 k : Fin 128) : Shape.Idx.along (s := S128x128) (ix2 i k0) 1 k = ix2 i k := by
  funext a
  fin_cases a <;> rfl

/-- The descending order's test of two entries. -/
theorem gt_test (a b : EReal) : (FloatOps.cmpfTotal (F := Ideal) (φ := .f32) .gt a b == 1#1) = decide (b < a) := by
  show (BitVec.ofBool (decide (b < a)) == 1#1) = _
  cases decide (b < a) <;> rfl

theorem sorted_at (x : FVec Ideal S128x128 .f32) (i k0 : Fin 128) :
    sortedFrom (fun k k' : Fin 128 => FloatOps.cmpfTotal (F := Ideal) (φ := .f32) .gt (x (Shape.Idx.along (s := S128x128) (ix2 i k0) 1 k))
        (x (Shape.Idx.along (s := S128x128) (ix2 i k0) 1 k')) == 1#1)
      = Rank.perm fun k => x (ix2 i k) := by
  unfold Rank.perm
  congr 1
  funext k k'
  rw [along_ix2, along_ix2, gt_test]

theorem topk_at (x : FVec Ideal S128x128 .f32) (i : Fin 128) (b : Fin 26) (h) :
    (Host.topK S128x26 1 (FloatOps.cmpfTotal (F := Ideal) (φ := .f32) .gt) x h).2 (ix2 i b)
      = BitVec.ofNat 32 (Rank.perm (fun k => x (ix2 i k)) ⟨b.val, by omega⟩).val := by
  rw [← sorted_at x i ⟨b.val, by omega⟩]
  unfold Host.topK
  pointwise
  unfold Host.sort2
  rw [dif_pos (by decide : 1 < S128x128.rank)]
  exact congrArg (fun t : Fin 128 => BitVec.ofNat 32 t.val) (Function.update_self (1 : Fin 2) _ _)

theorem indices_at (i : Fin 128) (b : Fin 26) : res_main_indices V (ix2 i b)
    = BitVec.ofNat 32 (Rank.perm (Spec.ae (args V) i) ⟨b.val, by omega⟩).val := by
  unfold res_main_indices
  rw [topk_at]
  simp only [v180_at]

theorem uitofp_bool (p : Prop) [Decidable p] : FloatOps.uitofp (F := Ideal) .f32 (BitVec.ofBool (decide p)) = (if p then 1 else 0 : EReal) := by
  show (((BitVec.ofBool (decide p)).toNat : ℝ) : EReal) = _
  by_cases h : p <;> simp [h]

theorem row_word (i j : Fin 128) :
    IntOp.cmpi .eq (IntOp.addi (BitVec.ofNat 32 i.val) 0#32) (BitVec.ofNat 32 j.val) = BitVec.ofBool (decide (i = j)) := by
  rw [show IntOp.addi (BitVec.ofNat 32 i.val) 0#32 = BitVec.ofNat 32 i.val from BitVec.add_zero _,
    WordCmp.cmpi_eq_ofNat (by omega) (by omega)]
  simp only [Fin.ext_iff]

/-- The scatter of ones at the neighbours. -/
theorem scatter_at (idx : IVec S128x26x2 32) (v : Fin 128 → Fin 128 → EReal) (hv : ∀ i, Function.Injective (v i))
    (h0 : ∀ (i : Fin 128) (b : Fin 26), idx (ix3 i b 0) = BitVec.ofNat 32 i.val)
    (h1 : ∀ (i : Fin 128) (b : Fin 26), idx (ix3 i b 1) = BitVec.ofNat 32 (Rank.perm (v i) ⟨b.val, by omega⟩).val)
    (x0 : FVec Ideal S128x128 .f32) (upd : FVec Ideal S128x26 .f32) (hx : ∀ i, x0 i = (0 : EReal)) (hu : ∀ i, upd i = (1 : EReal)) (i j : Fin 128) :
    Host.scatter scatter_S128x128_S128x26x2_S128x26_n_01_01_2 (fun _ b => b) x0 idx upd (ix2 i j)
      = (if Spec.rank (v i) j < 26 then 1 else 0 : EReal) := by
  have hl : ∀ (a : Fin 128) (b : Fin 26), scatter_S128x128_S128x26x2_S128x26_n_01_01_2.resultIdx? (ix2 a b) idx = some (ix2 i j)
      ↔ a = i ∧ Rank.perm (v a) ⟨b.val, by omega⟩ = j := fun a b => by
    refine (Routing.scatter_lands2 scatter_S128x128_S128x26x2_S128x26_n_01_01_2 rfl rfl rfl idx a b i j).trans ?_
    show (idx (ix3 a b 0)).toInt = _ ∧ (idx (ix3 a b 1)).toInt = _ ↔ _
    rw [h0, h1, StableHlo.Predicate.toInt_ofNat_small _ (by omega), StableHlo.Predicate.toInt_ofNat_small _ (by omega)]
    simp only [Nat.cast_inj, Fin.ext_iff]
  split_ifs with h
  · obtain ⟨b, hb⟩ := (Rank.rank_lt_26 (v i) (hv i) j).mp h
    exact Routing.scatter_set_hit _ x0 idx upd (ix2 i j) 1 (fun k _ => hu k) (ix2 i b) ((hl i b).mpr ⟨rfl, hb⟩)
  · rw [Routing.scatter_set_miss _ x0 idx upd (ix2 i j) fun k hk => ?_]
    · exact hx _
    · rw [eq_ix2 k] at hk
      obtain ⟨h2, h3⟩ := (hl _ _).mp hk
      rw [h2] at h3
      exact h ((Rank.rank_lt_26 (v i) (hv i) j).mpr ⟨_, h3⟩)

theorem v213_at (hv : ∀ i, Function.Injective (Spec.ae (args V) i)) (i j : Fin 128)  :
    @Eq EReal (res_main_v213 V (ix2 i j)) (Spec.adj (args V) i j) := by
  pointwise [res_main_v213, v180_at, Spec.adj, row_word]
  rw [scatter_at _ (Spec.ae (args V)) hv ?_ ?_ _ _ ?_ ?_]
  · rw [uitofp_bool]
    by_cases h : i = j
    · rw [if_pos h, if_pos h, if_neg (fun hh => hh.1 h)]
      show _ + Ideal.ofBits .f32 0x00000000#32 * _ = _
      rw [Ideal.ofBits_zero_f32, zero_mul]
    · rw [if_neg h, if_neg h]
      by_cases h2 : Spec.rank (Spec.ae (args V) i) j < 26
      · rw [if_pos h2, if_pos ⟨h, h2⟩, one_mul]
      · rw [if_neg h2, if_neg (fun hh => h2 hh.2), zero_mul]
  · intro i b
    pointwise [res_main_v183]
    exact Routing.wrap_of_lt _ _ (by simp; omega)
  · intro i b
    pointwise [indices_at]
    exact Routing.wrap_of_lt _ _ (by simp; omega)
  · intro i
    pointwise
  · intro i
    pointwise

theorem v220_at (hv : ∀ i, Function.Injective (Spec.ae (args V) i)) (i j : Fin 128) :
    @Eq EReal (res_main_v220 V (ix2 i j)) (if i = j then Spec.rc (args V) i else 0) := by
  pointwise [res_main_v220, v213_at V hv, Spec.rc, row_word]
theorem v222_at (hv : ∀ i, Function.Injective (Spec.ae (args V) i)) (i j : Fin 128) :
    @Eq EReal (res_main_v222 V (ix2 i j)) (Spec.an (args V) i j) := by
  pointwise [res_main_v222, v213_at V hv, v220_at V hv, Spec.an]
  simp

/-- The layer over the normalised adjacency and the mixing weights. -/
def layer (an : FVec Ideal S128x128 .f32) (al : FVec Ideal S3 .f32) (x : FVec Ideal S128x1600 .f32) (w : FVec Ideal S1600x1000 .f32)
    (b g e : FVec Ideal S1000 .f32) : FVec Ideal S128x1000 .f32 :=
  (maximumf (addf (mulf (mulf (addf (Host.dotGeneral dot_S128x128_S128x1000_S128x1000_1_0_0_1_n_n none (addf (addf (mulf (broadcastInDim S128x128 ![] Gen.bcast_S_S128x128 (shapeCast _ (extractStridedSlice S1 ![0] al Gen.slices_S3_S1_0) Gen.shapeCasts_S1_S_)) (uitofp .f32 (cmpi .eq (addi (iotaInDim S128x128 32 0) (broadcastInDim S128x128 ![] Gen.bcast_S_S128x128 (constantI S_ 32 0#32))) (iotaInDim S128x128 32 1)))) (mulf (broadcastInDim S128x128 ![] Gen.bcast_S_S128x128 (shapeCast _ (extractStridedSlice S1 ![1] al Gen.slices_S3_S1_1) Gen.shapeCasts_S1_S_)) an)) (mulf (broadcastInDim S128x128 ![] Gen.bcast_S_S128x128 (shapeCast _ (extractStridedSlice S1 ![2] al Gen.slices_S3_S1_2) Gen.shapeCasts_S1_S_)) (Host.dotGeneral dot_S128x128_S128x128_S128x128_1_0_0_1_n_n none an an))) (Host.dotGeneral dot_S128x1600_S1600x1000_S128x1000_1_0_0_1_n_n none x w)) (broadcastInDim S128x1000 ![0, 1] Gen.bcast_S1x1000_S128x1000_0_1 (broadcastInDim S1x1000 ![1] Gen.bcast_S1000_S1x1000_1 b))) (broadcastInDim S128x1000 ![] Gen.bcast_S_S128x1000 (constant S_ .f32 0x3F7FFFAC#32))) (broadcastInDim S128x1000 ![0, 1] Gen.bcast_S1x1000_S128x1000_0_1 (broadcastInDim S1x1000 ![1] Gen.bcast_S1000_S1x1000_1 g))) (broadcastInDim S128x1000 ![0, 1] Gen.bcast_S1x1000_S128x1000_0_1 (broadcastInDim S1x1000 ![1] Gen.bcast_S1000_S1x1000_1 e))) (broadcastInDim S128x1000 ![] Gen.bcast_S_S128x1000 (constant S_ .f32 0x00000000#32)))

theorem out_at (hv : ∀ i, Function.Injective (Spec.ae (args V) i)) (i : Fin 128) (o : Fin 1000) :
    @Eq EReal (layer (res_main_v222 V) (res_main_v233 V) (V (Proc.devRef .tc main_arg0)) (V (Proc.devRef .tc main_arg13))
        (V (Proc.devRef .tc main_arg14)) (V (Proc.devRef .tc main_arg15)) (V (Proc.devRef .tc main_arg16)) (ix2 i o))
      (Spec.out (args V) i o) := by
  pointwise [layer, v222_at V hv, row_word, Spec.out, Spec.bnrelu, Spec.lin, Spec.mm]
  simp only [uitofp_bool]
  rfl

end Cert.K.Ref
-- ==== Proof.Pre.lean ====
module

public import proofs.«01_k».proof.Proof.RefAdj
public import proofs.«01_k».proof.Proof.KerWhole
public import proofs.«01_k».proof.Proof.Gen.Pre_generic

/-! What the precondition says of the arguments. -/

@[expose] public section

set_option maxRecDepth 16384

noncomputable section

namespace Cert.K.Ref
open Cert.ReferenceIdeal Cert.ReferenceIdeal.Value
open Idealize.ShloMosaic Idealize.ShloMosaic.TcCoe Idealize.SL.Sem

variable (V : Valuation τ sig (Elt Ideal)) [Cert.Pre_generic.Facts]

/-- The precondition's nine answers. -/
abbrev pre := (Cert.Pre_generic.fn (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)))

theorem stage_s : ∃ s : FVec Ideal S128x1 .f32,
    res_main_v171 V = Host.divf (V (Proc.devRef .tc main_arg0)) (broadcastInDim S128x1600 ![0, 1] Gen.bcast_S128x1_S128x1600_0_1 s)
    ∧ (pre V).2.2.2.2.2.2.2.1 = cmpf .une s (broadcastInDim S128x1 ![] Cert.Pre_generic.Facts.bcast_S_S128x1 (constant S_ .f32 0x00000000#32))
    ∧ ∀ n : Fin 128, @Eq EReal (s (ix2 n 0)) (Spec.s (args V) n) := by
  refine ⟨_, rfl, rfl, fun n => ?_⟩
  pointwise [v147_at, Spec.s, Spec.h3]
  rfl

theorem stage_d : ∃ d : FVec Ideal S128x128 .f32,
    res_main_v180 V = Host.exp (Host.negf d)
    ∧ (pre V).2.2.2.2.2.2.2.2 = ori (cmpf .une
        (broadcastInDim Cert.Pre_generic.S128x128x128 ![0, 1, 2] Cert.Pre_generic.Facts.bcast_S128x128x1_S128x128x128_0_1_2
          (broadcastInDim Cert.Pre_generic.S128x128x1 ![0, 1] Cert.Pre_generic.Facts.bcast_S128x128_S128x128x1_0_1 d))
        (broadcastInDim Cert.Pre_generic.S128x128x128 ![0, 1, 2] Cert.Pre_generic.Facts.bcast_S128x1x128_S128x128x128_0_1_2
          (broadcastInDim Cert.Pre_generic.S128x1x128 ![0, 2] Cert.Pre_generic.Facts.bcast_S128x128_S128x1x128_0_2 d)))
        (broadcastInDim Cert.Pre_generic.S128x128x128 ![0, 1, 2] Cert.Pre_generic.Facts.bcast_S1x128x128_S128x128x128_0_1_2
          (noti (broadcastInDim Cert.Pre_generic.S1x128x128 ![1, 2] Cert.Pre_generic.Facts.bcast_S128x128_S1x128x128_1_2
            (noti (cmpi .eq (addi (iotaInDim S128x128 32 0) (broadcastInDim S128x128 ![] Gen.bcast_S_S128x128 (constantI S_ 32 0#32))) (iotaInDim S128x128 32 1))))))
    ∧ ∀ i j : Fin 128, @Eq EReal (d (ix2 i j)) (Spec.d2 (args V) i j) := by
  refine ⟨_, rfl, rfl, fun i j => ?_⟩
  pointwise [res_main_v176, v171_at, Spec.d2]

theorem stage_0 : (pre V).1 = cmpf .olt (Host.absf (F := Ideal) (s := S128x1600) (φ := .f32) (V (Proc.devRef .tc main_arg0))) (broadcastInDim S128x1600 ![] Cert.Pre_generic.Facts.bcast_S_S128x1600 (constant S_ .f32 0x7F800000#32)) := rfl
theorem stage_1 : (pre V).2.1 = cmpf .olt (Host.absf (F := Ideal) (s := S64) (φ := .f32) (V (Proc.devRef .tc main_arg3))) (broadcastInDim S64 ![] Cert.Pre_generic.Facts.bcast_S_S64 (constant S_ .f32 0x7F800000#32)) := rfl
theorem stage_2 : (pre V).2.2.1 = cmpf .olt (Host.absf (F := Ideal) (s := S64) (φ := .f32) (V (Proc.devRef .tc main_arg2))) (broadcastInDim S64 ![] Cert.Pre_generic.Facts.bcast_S_S64 (constant S_ .f32 0x7F800000#32)) := rfl
theorem stage_3 : (pre V).2.2.2.1 = cmpf .olt (Host.absf (F := Ideal) (s := S1) (φ := .f32) (V (Proc.devRef .tc main_arg7))) (broadcastInDim S1 ![] Cert.Pre_generic.Facts.bcast_S_S1 (constant S_ .f32 0x7F800000#32)) := rfl
theorem stage_4 : (pre V).2.2.2.2.1 = cmpf .olt (Host.absf (F := Ideal) (s := S1) (φ := .f32) (V (Proc.devRef .tc main_arg6))) (broadcastInDim S1 ![] Cert.Pre_generic.Facts.bcast_S_S1 (constant S_ .f32 0x7F800000#32)) := rfl
theorem stage_5 : (pre V).2.2.2.2.2.1 = cmpf .olt (Host.absf (F := Ideal) (s := S1000) (φ := .f32) (V (Proc.devRef .tc main_arg15))) (broadcastInDim S1000 ![] Cert.Pre_generic.Facts.bcast_S_S1000 (constant S_ .f32 0x7F800000#32)) := rfl
theorem stage_6 : (pre V).2.2.2.2.2.2.1 = cmpf .olt (Host.absf (F := Ideal) (s := S1000) (φ := .f32) (V (Proc.devRef .tc main_arg14))) (broadcastInDim S1000 ![] Cert.Pre_generic.Facts.bcast_S_S1000 (constant S_ .f32 0x7F800000#32)) := rfl

theorem real_of (x : EReal) (h : BitVec.ofBool (decide (FloatOps.absf (F := Ideal) (φ := .f32) x < Ideal.ofBits .f32 0x7F800000#32)) = 1#1) : Ker.Fin' x := by
  have e : Ideal.ofBits .f32 0x7F800000#32 = (⊤ : EReal) := by simp [Ideal.ofBits, Ideal.ieee]
  rw [e] at h
  induction x using EReal.rec with
  | coe r => exact ⟨r, rfl⟩
  | bot => exact absurd h (by simp [FloatOps.absf])
  | top => exact absurd h (by simp [FloatOps.absf])

theorem div_real {x y : EReal} (hx : Ker.Fin' x) (hy : y ≠ 0) : Ker.Fin' (Ideal.div x y) := by
  obtain ⟨r, rfl⟩ := hx
  rw [Ideal.div, if_neg hy]
  induction y using EReal.rec with
  | coe q => exact ⟨r * q⁻¹, by rw [← EReal.coe_inv, ← EReal.coe_mul]⟩
  | bot => exact ⟨0, by simp⟩
  | top => exact ⟨0, by simp⟩

theorem bit_ne {a b : EReal} (h : BitVec.ofBool (decide (a ≠ b)) = 1#1) : a ≠ b := by
  by_contra e
  simp [e] at h

theorem word_eq {j k : Fin 128} (h : (~~~~~~IntOp.cmpi CmpIPredicate.eq (IntOp.addi (BitVec.ofNat 32 ↑j) 0#32) (BitVec.ofNat 32 ↑k)) = 1#1) : j = k := by
  rw [row_word] at h
  by_contra e
  simp [e] at h

theorem bit_or {a b : BitVec 1} (h : IntOp.ori a b = 1#1) : a = 1#1 ∨ b = 1#1 := by
  revert a b; decide

/-- The conditions on the arguments that the programs' equality rests on. -/
theorem good (h0 : (pre V).1 = (fun _ => 1#1)) (h1 : (pre V).2.1 = (fun _ => 1#1)) (h2 : (pre V).2.2.1 = (fun _ => 1#1))
    (h3 : (pre V).2.2.2.1 = (fun _ => 1#1)) (h4 : (pre V).2.2.2.2.1 = (fun _ => 1#1)) (h5 : (pre V).2.2.2.2.2.1 = (fun _ => 1#1))
    (h6 : (pre V).2.2.2.2.2.2.1 = (fun _ => 1#1)) (h7 : (pre V).2.2.2.2.2.2.2.1 = (fun _ => 1#1))
    (h8 : (pre V).2.2.2.2.2.2.2.2 = (fun _ => 1#1)) : Ker.Good (args V) := by
  have hs : ∀ n, Spec.s (args V) n ≠ 0 := by
    intro n
    obtain ⟨s, -, hs, e⟩ := stage_s V
    have q := congrFun (hs.symm.trans h7) (ix2 n 0)
    pointwise at q
    rw [← e n]
    exact bit_ne q
  have hF : ∀ n k, Ker.Fin' ((args V).F n k) := by
    intro n k
    have q := congrFun ((stage_0 V).symm.trans h0) (ix2 n k)
    pointwise at q
    exact real_of _ q
  have hf : ∀ i k, Ker.Fin' (Spec.f (args V) i k) := fun i k => div_real (hF i k) (hs i)
  refine ⟨?_, ?_, ?_, ?_, ?_, ?_, hs, hf, ?_⟩
  · intro o
    have q := congrFun ((stage_2 V).symm.trans h2) (ix1 o)
    pointwise at q
    exact real_of _ q
  · intro o
    have q := congrFun ((stage_1 V).symm.trans h1) (ix1 o)
    pointwise at q
    exact real_of _ q
  · have q := congrFun ((stage_4 V).symm.trans h4) (ix1 0)
    pointwise at q
    exact real_of _ q
  · have q := congrFun ((stage_3 V).symm.trans h3) (ix1 0)
    pointwise at q
    exact real_of _ q
  · intro o
    have q := congrFun ((stage_6 V).symm.trans h6) (ix1 o)
    pointwise at q
    exact real_of _ q
  · intro o
    have q := congrFun ((stage_5 V).symm.trans h5) (ix1 o)
    pointwise at q
    exact real_of _ q
  · intro i j k hjk
    obtain ⟨d, -, hd, e⟩ := stage_d V
    have q := congrFun (hd.symm.trans h8) (ix3 i j k)
    pointwise at q
    rcases bit_or q with q | q
    · have q := bit_ne q
      rw [e, e] at q
      obtain ⟨r, hr, -⟩ := Ker.dist (args V) hf i j
      obtain ⟨r', hr', -⟩ := Ker.dist (args V) hf i k
      rw [Spec.ae, Spec.ae, hr, hr', ← EReal.coe_neg, ← EReal.coe_neg] at hjk
      have hjk : ((Real.exp (-r) : ℝ) : EReal) = ((Real.exp (-r') : ℝ) : EReal) := hjk
      have z := neg_injective (Real.exp_injective (EReal.coe_injective hjk))
      exact absurd (hr.trans ((congrArg _ z).trans hr'.symm)) q
    · exact word_eq q

end Cert.K.Ref
-- ==== Proof.Final.lean ====
module

public import proofs.«01_k».proof.Proof.KerFinal
public import proofs.«01_k».proof.Proof.Pre
public import proofs.«01_k».proof.Defs
public import proofs.«01_k».proof.Proof.Gen.Kernel.Frame

/-! The claims' two runs brought together. -/

@[expose] public section

set_option maxRecDepth 16384

noncomputable section

namespace Cert.K
open Idealize.ShloMosaic Idealize.ShloMosaic.TcCoe Idealize.SL.Sem Idealize.ShloMosaic.StableHlo

section
open Cert.Pre_generic
theorem answers [Cert.Pre_generic.Facts] {a0 b0 : FVec Ideal S128x1600 .f32} {a1 b1 : FVec Ideal S64x64x3x3 .f32} {a2 b2 : FVec Ideal S64 .f32} {a3 b3 : FVec Ideal S64 .f32} {a4 b4 : FVec Ideal S64 .f32} {a5 b5 : FVec Ideal S1x64x3x3 .f32} {a6 b6 : FVec Ideal S1 .f32} {a7 b7 : FVec Ideal S1 .f32} {a8 b8 : FVec Ideal S1 .f32} {a9 b9 : FVec Ideal S8x4 .f32} {a10 b10 : FVec Ideal S8 .f32} {a11 b11 : FVec Ideal S1x8 .f32} {a12 b12 : FVec Ideal S1 .f32} {a13 b13 : FVec Ideal S1600x1000 .f32} {a14 b14 : FVec Ideal S1000 .f32} {a15 b15 : FVec Ideal S1000 .f32} {a16 b16 : FVec Ideal S1000 .f32} {a17 b17 : FVec Ideal S1 .f32} {a18 b18 : FVec Ideal S1 .f32} {a19 b19 : FVec Ideal S1 .f32}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) :
    fn a0 a1 a2 a3 a4 a5 a6 a7 a8 a9 a10 a11 a12 a13 a14 a15 a16 a17 a18 a19 = fn b0 b1 b2 b3 b4 b5 b6 b7 b8 b9 b10 b11 b12 b13 b14 b15 b16 b17 b18 b19 := by
  subst_vars; rfl
end

/-- The reference leaves its arguments, and its counters at zero. -/
theorem ref_frame : Cert.quiescent_ReferenceIdeal := by
  intro m ρ _
  exact (θ_run Cert.ReferenceIdeal.defs _ _).mono
    (fun r h => ⟨fun c => (h c).2, Idealize.ShloMosaic.sem_eq_zero_of_no_sems (by decide) r.2⟩) (Cert.ReferenceIdeal.Value.run m ρ)

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two memories hold the same arguments on a device. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)

theorem same_args (h : Agree m m' c) : Ref.args (launchContents m' c) = Ker.kargs m c := by
  obtain ⟨h0, h1, h2, h3, h4, h5, h6, h7, h8, h9, h10, h11, h12, h13, h14, h15, h16, h17, h18, h19⟩ := h
  have e : Cert.ReferenceIdeal.Value.res_main_v233 (launchContents m' c) = Ker.soft (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) := rfl
  refine (Spec.Args.mk.injEq ..).mpr ⟨funext fun n => funext fun k => congrFun h0 (ix2 n k), funext fun o => funext fun k => funext fun a => funext fun b => congrFun h1 (ix4 o k a b), funext fun o => congrFun h2 (ix1 o), funext fun o => congrFun h3 (ix1 o), funext fun o => congrFun h4 (ix1 o), funext fun k => funext fun a => funext fun b => congrFun h5 (ix4 0 k a b), congrFun h6 (ix1 0), congrFun h7 (ix1 0), congrFun h8 (ix1 0), funext fun u => funext fun k => congrFun h9 (ix2 u k), funext fun o => congrFun h10 (ix1 o), funext fun u => congrFun h11 (ix2 0 u), congrFun h12 (ix1 0), funext fun l => funext fun o => congrFun h13 (ix2 l o), funext fun o => congrFun h14 (ix1 o), funext fun o => congrFun h15 (ix1 o), funext fun o => congrFun h16 (ix1 o), ?_⟩
  refine funext fun t => congrFun (e.trans ?_) (ix1 t)
  exact congr (congr (congrArg Ker.soft h17) h18) h19

theorem good_of (hp : Cert.Pre_KernelIdeal_generic m) (h : Agree m m' c) : Ker.Good (Ref.args (launchContents m' c)) := by
  obtain ⟨h0, h1, h2, h3, h4, h5, h6, h7, h8, h9, h10, h11, h12, h13, h14, h15, h16, h17, h18, h19⟩ := h
  have e : Ref.pre (launchContents m' c) = Cert.Pre_generic.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) :=
    answers h0 h1 h2 h3 h4 h5 h6 h7 h8 h9 h10 h11 h12 h13 h14 h15 h16 h17 h18 h19
  obtain ⟨p0, p1, p2, p3, p4, p5, p6, p7, p8⟩ := hp c
  refine Ref.good (launchContents m' c) ?_ ?_ ?_ ?_ ?_ ?_ ?_ ?_ ?_ <;> rw [e] <;> assumption

theorem value (hp : Cert.Pre_KernelIdeal_generic m) (h : Agree m m' c) :
    Ref.layer (Cert.ReferenceIdeal.Value.res_main_v222 (launchContents m' c)) (Cert.ReferenceIdeal.Value.res_main_v233 (launchContents m' c))
      (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) = (Cert.KernelIdeal.Gen.dats m 0 c).arrAt 6 (Cert.KernelIdeal.cfgs 0).N := by
  have g := good_of m m' c hp h
  have e := same_args m m' c h
  rw [Ker.final m c (e ▸ g), ← e]
  funext j
  obtain ⟨i, o, rfl⟩ : ∃ (i : Fin 128) (o : Fin 1000), j = ix2 i o := ⟨j 0, j 1, by funext a; fin_cases a <;> rfl⟩
  exact Ref.out_at (launchContents m' c) g.hv i o
end

theorem algebraic : Cert.algebraic_KernelIdeal_ReferenceIdeal_pre_generic := by
  intro m g m' g' hp hagree
  refine ⟨fun c => (Cert.KernelIdeal.Gen.dats m 0 c).arrAt 6 (Cert.KernelIdeal.cfgs 0).N, ?_, ?_⟩
  · exact (θ_run Cert.KernelIdeal.defs _ _).mono (fun r h c => h c) (Cert.KernelIdeal.Value.run_blocks m g)
  · exact (θ_run Cert.ReferenceIdeal.defs _ _).mono (fun r h c => ⟨(h c).1.trans (value m m' c hp (hagree c)), (h c).2⟩)
      (Cert.ReferenceIdeal.Value.run m' g')

end Cert.K
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_generic
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Final
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_generic.Gen.facts,
    fun m ρ _ => Cert.Kernel.Gen.frame m ρ,
    fun m ρ _ => Cert.KernelIdeal.Gen.frame m ρ,
    fun m ρ _ => Cert.KernelIdeal.Gen.frame m ρ,
    Cert.K.ref_frame,
    fun m ρ _ => Cert.K.ref_frame m ρ trivial,
    trivial,
    Cert.K.algebraic⟩

end Cert.Proof

end
